-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x2 : Shape := ⟨2, ![512, 2]⟩
abbrev S10000x3 : Shape := ⟨2, ![10000, 3]⟩
abbrev S10000x2 : Shape := ⟨2, ![10000, 2]⟩
abbrev S10000x1 : Shape := ⟨2, ![10000, 1]⟩
abbrev S10000x2x1024 : Shape := ⟨3, ![10000, 2, 1024]⟩
abbrev S10000x1x1024 : Shape := ⟨3, ![10000, 1, 1024]⟩
abbrev S10000x1024 : Shape := ⟨2, ![10000, 1024]⟩
abbrev S2x512 : Shape := ⟨2, ![2, 512]⟩
abbrev S3x512 : Shape := ⟨2, ![3, 512]⟩
abbrev S400x3 : Shape := ⟨2, ![400, 3]⟩
abbrev S400x2 : Shape := ⟨2, ![400, 2]⟩
abbrev S400x1 : Shape := ⟨2, ![400, 1]⟩
abbrev S400x1024 : Shape := ⟨2, ![400, 1024]⟩
abbrev S400 : Shape := ⟨1, ![400]⟩
abbrev S1x512 : Shape := ⟨2, ![1, 512]⟩
abbrev S400x512 : Shape := ⟨2, ![400, 512]⟩
abbrev S512 : Shape := ⟨1, ![512]⟩
abbrev S512x3 : Shape := ⟨2, ![512, 3]⟩

abbrev nBuf : Space → Nat
  | .hbm => 13
  | .vmem => 14
  | .smem => 0
  | _ => 0

abbrev bufTy : (tb : Table) → Fin (tcTables nBuf tb) → BufTy
  | .hbm, ⟨0, _⟩ => ⟨S512x2, .f32⟩
  | .hbm, ⟨1, _⟩ => ⟨S10000x3, .f32⟩
  | .hbm, ⟨2, _⟩ => ⟨S10000x2, .f32⟩
  | .hbm, ⟨3, _⟩ => ⟨S10000x2, .f32⟩
  | .hbm, ⟨4, _⟩ => ⟨S10000x1, .f32⟩
  | .hbm, ⟨5, _⟩ => ⟨S10000x2x1024, .f32⟩
  | .hbm, ⟨6, _⟩ => ⟨S10000x1x1024, .f32⟩
  | .hbm, ⟨7, _⟩ => ⟨S10000x1024, .f32⟩
  | .hbm, ⟨8, _⟩ => ⟨S10000x1x1024, .f32⟩
  | .hbm, ⟨9, _⟩ => ⟨S10000x1024, .f32⟩
  | .hbm, ⟨10, _⟩ => ⟨S2x512, .f32⟩
  | .hbm, ⟨11, _⟩ => ⟨S3x512, .f32⟩
  | .hbm, ⟨12, _⟩ => ⟨S512x3, .f32⟩
  | .local _ .vmem, ⟨0, _⟩ => ⟨S2x512, .f32⟩
  | .local _ .vmem, ⟨1, _⟩ => ⟨S400x3, .f32⟩
  | .local _ .vmem, ⟨2, _⟩ => ⟨S400x3, .f32⟩
  | .local _ .vmem, ⟨3, _⟩ => ⟨S400x2, .f32⟩
  | .local _ .vmem, ⟨4, _⟩ => ⟨S400x2, .f32⟩
  | .local _ .vmem, ⟨5, _⟩ => ⟨S400x2, .f32⟩
  | .local _ .vmem, ⟨6, _⟩ => ⟨S400x2, .f32⟩
  | .local _ .vmem, ⟨7, _⟩ => ⟨S400x1, .f32⟩
  | .local _ .vmem, ⟨8, _⟩ => ⟨S400x1, .f32⟩
  | .local _ .vmem, ⟨9, _⟩ => ⟨S400x1024, .f32⟩
  | .local _ .vmem, ⟨10, _⟩ => ⟨S400x1024, .f32⟩
  | .local _ .vmem, ⟨11, _⟩ => ⟨S400x1024, .f32⟩
  | .local _ .vmem, ⟨12, _⟩ => ⟨S400x1024, .f32⟩
  | .local _ .vmem, ⟨13, _⟩ => ⟨S3x512, .f32⟩
  | _, _ => ⟨S512x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S400x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S512x2 : Shape := ⟨2, ![512, 2]⟩
abbrev S10000x3 : Shape := ⟨2, ![10000, 3]⟩
abbrev S10000x2 : Shape := ⟨2, ![10000, 2]⟩
abbrev S10000x1 : Shape := ⟨2, ![10000, 1]⟩
abbrev S10000x2x1024 : Shape := ⟨3, ![10000, 2, 1024]⟩
abbrev S10000x2x16 : Shape := ⟨3, ![10000, 2, 16]⟩
abbrev S_ : Shape := ⟨0, ![]⟩
abbrev S10000x2x16x1 : Shape := ⟨4, ![10000, 2, 16, 1]⟩
abbrev S1 : Shape := ⟨1, ![1]⟩
abbrev S1x1x1x1 : Shape := ⟨4, ![1, 1, 1, 1]⟩
abbrev S512x1x2 : Shape := ⟨3, ![512, 1, 2]⟩
abbrev S1x10000x2 : Shape := ⟨3, ![1, 10000, 2]⟩
abbrev S512x10000x2 : Shape := ⟨3, ![512, 10000, 2]⟩
abbrev S10000 : Shape := ⟨1, ![10000]⟩
abbrev S1x10000 : Shape := ⟨2, ![1, 10000]⟩
abbrev S512x10000x1 : Shape := ⟨3, ![512, 10000, 1]⟩
abbrev S512x10000 : Shape := ⟨2, ![512, 10000]⟩
abbrev S10000x1x16 : Shape := ⟨3, ![10000, 1, 16]⟩
abbrev S10000x16 : Shape := ⟨2, ![10000, 16]⟩
abbrev S1x10000x16 : Shape := ⟨3, ![1, 10000, 16]⟩
abbrev S512x10000x16 : Shape := ⟨3, ![512, 10000, 16]⟩
abbrev S512x3 : Shape := ⟨2, ![512, 3]⟩

abbrev nBuf : Space → Nat
  | .hbm => 126
  | .vmem => 0
  | .smem => 0
  | _ => 0

abbrev bufTy : (tb : Table) → Fin (tcTables nBuf tb) → BufTy
  | .hbm, ⟨0, _⟩ => ⟨S512x2, .f32⟩
  | .hbm, ⟨1, _⟩ => ⟨S10000x3, .f32⟩
  | .hbm, ⟨2, _⟩ => ⟨S10000x2, .f32⟩
  | .hbm, ⟨3, _⟩ => ⟨S10000x2, .f32⟩
  | .hbm, ⟨4, _⟩ => ⟨S10000x1, .f32⟩
  | .hbm, ⟨5, _⟩ => ⟨S10000x2x1024, .f32⟩
  | .hbm, ⟨6, _⟩ => ⟨S10000x2x1024, .f32⟩
  | .hbm, ⟨7, _⟩ => ⟨S10000x2x16, .f32⟩
  | .hbm, ⟨8, _⟩ => ⟨S10000x2x16, .i32⟩
  | .hbm, ⟨9, _⟩ => ⟨S_, .i32⟩
  | .hbm, ⟨10, _⟩ => ⟨S10000x2x16, .i32⟩
  | .hbm, ⟨11, _⟩ => ⟨S10000x2x16, .i1⟩
  | .hbm, ⟨12, _⟩ => ⟨S_, .i32⟩
  | .hbm, ⟨13, _⟩ => ⟨S10000x2x16, .i32⟩
  | .hbm, ⟨14, _⟩ => ⟨S10000x2x16, .i32⟩
  | .hbm, ⟨15, _⟩ => ⟨S10000x2x16, .i32⟩
  | .hbm, ⟨16, _⟩ => ⟨S10000x2x16x1, .i32⟩
  | .hbm, ⟨17, _⟩ => ⟨S1, .i32⟩
  | .hbm, ⟨18, _⟩ => ⟨S_, .i32⟩
  | .hbm, ⟨19, _⟩ => ⟨S10000x2x16x1, .i32⟩
  | .hbm, ⟨20, _⟩ => ⟨S10000x2x16x1, .i1⟩
  | .hbm, ⟨21, _⟩ => ⟨S1x1x1x1, .i32⟩
  | .hbm, ⟨22, _⟩ => ⟨S10000x2x16x1, .i32⟩
  | .hbm, ⟨23, _⟩ => ⟨S10000x2x16x1, .i1⟩
  | .hbm, ⟨24, _⟩ => ⟨S10000x2x16x1, .i1⟩
  | .hbm, ⟨25, _⟩ => ⟨S_, .i1⟩
  | .hbm, ⟨26, _⟩ => ⟨S10000x2x16, .i1⟩
  | .hbm, ⟨27, _⟩ => ⟨S10000x2x16, .f32⟩
  | .hbm, ⟨28, _⟩ => ⟨S_, .f32⟩
  | .hbm, ⟨29, _⟩ => ⟨S10000x2x16, .f32⟩
  | .hbm, ⟨30, _⟩ => ⟨S10000x2x16, .f32⟩
  | .hbm, ⟨31, _⟩ => ⟨S10000x2x16, .f32⟩
  | .hbm, ⟨32, _⟩ => ⟨S_, .f32⟩
  | .hbm, ⟨33, _⟩ => ⟨S10000x2x16, .f32⟩
  | .hbm, ⟨34, _⟩ => ⟨S10000x2x16, .f32⟩
  | .hbm, ⟨35, _⟩ => ⟨S_, .f32⟩
  | .hbm, ⟨36, _⟩ => ⟨S10000x2x16, .f32⟩
  | .hbm, ⟨37, _⟩ => ⟨S10000x2x16, .f32⟩
  | .hbm, ⟨38, _⟩ => ⟨S512x1x2, .f32⟩
  | .hbm, ⟨39, _⟩ => ⟨S1x10000x2, .f32⟩
  | .hbm, ⟨40, _⟩ => ⟨S512x10000x2, .f32⟩
  | .hbm, ⟨41, _⟩ => ⟨S512x10000x2, .f32⟩
  | .hbm, ⟨42, _⟩ => ⟨S512x10000x2, .f32⟩
  | .hbm, ⟨43, _⟩ => ⟨S10000, .f32⟩
  | .hbm, ⟨44, _⟩ => ⟨S10000, .f32⟩
  | .hbm, ⟨45, _⟩ => ⟨S10000, .f32⟩
  | .hbm, ⟨46, _⟩ => ⟨S10000, .f32⟩
  | .hbm, ⟨47, _⟩ => ⟨S1x10000, .f32⟩
  | .hbm, ⟨48, _⟩ => ⟨S512x10000x1, .f32⟩
  | .hbm, ⟨49, _⟩ => ⟨S512x10000, .f32⟩
  | .hbm, ⟨50, _⟩ => ⟨S512x10000, .f32⟩
  | .hbm, ⟨51, _⟩ => ⟨S512x10000, .f32⟩
  | .hbm, ⟨52, _⟩ => ⟨S1x10000, .f32⟩
  | .hbm, ⟨53, _⟩ => ⟨S512x10000x1, .f32⟩
  | .hbm, ⟨54, _⟩ => ⟨S512x10000, .f32⟩
  | .hbm, ⟨55, _⟩ => ⟨S512x10000, .f32⟩
  | .hbm, ⟨56, _⟩ => ⟨S512x10000, .f32⟩
  | .hbm, ⟨57, _⟩ => ⟨S512x10000, .f32⟩
  | .hbm, ⟨58, _⟩ => ⟨S1x10000, .f32⟩
  | .hbm, ⟨59, _⟩ => ⟨S1x10000, .f32⟩
  | .hbm, ⟨60, _⟩ => ⟨S512x10000x1, .f32⟩
  | .hbm, ⟨61, _⟩ => ⟨S512x10000, .f32⟩
  | .hbm, ⟨62, _⟩ => ⟨S512x10000, .f32⟩
  | .hbm, ⟨63, _⟩ => ⟨S512x10000, .f32⟩
  | .hbm, ⟨64, _⟩ => ⟨S1x10000, .f32⟩
  | .hbm, ⟨65, _⟩ => ⟨S512x10000x1, .f32⟩
  | .hbm, ⟨66, _⟩ => ⟨S512x10000, .f32⟩
  | .hbm, ⟨67, _⟩ => ⟨S512x10000, .f32⟩
  | .hbm, ⟨68, _⟩ => ⟨S512x10000, .f32⟩
  | .hbm, ⟨69, _⟩ => ⟨S512x10000, .f32⟩
  | .hbm, ⟨70, _⟩ => ⟨S10000x1, .f32⟩
  | .hbm, ⟨71, _⟩ => ⟨S10000, .f32⟩
  | .hbm, ⟨72, _⟩ => ⟨S1x10000, .f32⟩
  | .hbm, ⟨73, _⟩ => ⟨S512x10000, .f32⟩
  | .hbm, ⟨74, _⟩ => ⟨S512x10000, .f32⟩
  | .hbm, ⟨75, _⟩ => ⟨S512x10000, .f32⟩
  | .hbm, ⟨76, _⟩ => ⟨S10000x1, .f32⟩
  | .hbm, ⟨77, _⟩ => ⟨S10000, .f32⟩
  | .hbm, ⟨78, _⟩ => ⟨S1x10000, .f32⟩
  | .hbm, ⟨79, _⟩ => ⟨S512x10000, .f32⟩
  | .hbm, ⟨80, _⟩ => ⟨S512x10000, .f32⟩
  | .hbm, ⟨81, _⟩ => ⟨S512x10000, .f32⟩
  | .hbm, ⟨82, _⟩ => ⟨S512x10000, .f32⟩
  | .hbm, ⟨83, _⟩ => ⟨S_, .f32⟩
  | .hbm, ⟨84, _⟩ => ⟨S512x10000, .f32⟩
  | .hbm, ⟨85, _⟩ => ⟨S512x10000, .f32⟩
  | .hbm, ⟨86, _⟩ => ⟨S512x10000, .f32⟩
  | .hbm, ⟨87, _⟩ => ⟨S10000x1x16, .f32⟩
  | .hbm, ⟨88, _⟩ => ⟨S10000x16, .f32⟩
  | .hbm, ⟨89, _⟩ => ⟨S1x10000x16, .f32⟩
  | .hbm, ⟨90, _⟩ => ⟨S10000x1x16, .f32⟩
  | .hbm, ⟨91, _⟩ => ⟨S10000x16, .f32⟩
  | .hbm, ⟨92, _⟩ => ⟨S1x10000x16, .f32⟩
  | .hbm, ⟨93, _⟩ => ⟨S_, .f32⟩
  | .hbm, ⟨94, _⟩ => ⟨S1x10000x16, .f32⟩
  | .hbm, ⟨95, _⟩ => ⟨S1x10000x16, .f32⟩
  | .hbm, ⟨96, _⟩ => ⟨S512x10000x1, .f32⟩
  | .hbm, ⟨97, _⟩ => ⟨S512x10000x16, .f32⟩
  | .hbm, ⟨98, _⟩ => ⟨S512x10000x16, .f32⟩
  | .hbm, ⟨99, _⟩ => ⟨S512x10000x16, .f32⟩
  | .hbm, ⟨100, _⟩ => ⟨S512x10000x16, .f32⟩
  | .hbm, ⟨101, _⟩ => ⟨S512x10000x16, .f32⟩
  | .hbm, ⟨102, _⟩ => ⟨S512x10000x16, .f32⟩
  | .hbm, ⟨103, _⟩ => ⟨S_, .f32⟩
  | .hbm, ⟨104, _⟩ => ⟨S512x10000, .f32⟩
  | .hbm, ⟨105, _⟩ => ⟨S10000x1x16, .f32⟩
  | .hbm, ⟨106, _⟩ => ⟨S10000x16, .f32⟩
  | .hbm, ⟨107, _⟩ => ⟨S1x10000x16, .f32⟩
  | .hbm, ⟨108, _⟩ => ⟨S10000x1x16, .f32⟩
  | .hbm, ⟨109, _⟩ => ⟨S10000x16, .f32⟩
  | .hbm, ⟨110, _⟩ => ⟨S1x10000x16, .f32⟩
  | .hbm, ⟨111, _⟩ => ⟨S_, .f32⟩
  | .hbm, ⟨112, _⟩ => ⟨S1x10000x16, .f32⟩
  | .hbm, ⟨113, _⟩ => ⟨S1x10000x16, .f32⟩
  | .hbm, ⟨114, _⟩ => ⟨S512x10000x1, .f32⟩
  | .hbm, ⟨115, _⟩ => ⟨S512x10000x16, .f32⟩
  | .hbm, ⟨116, _⟩ => ⟨S512x10000x16, .f32⟩
  | .hbm, ⟨117, _⟩ => ⟨S512x10000x16, .f32⟩
  | .hbm, ⟨118, _⟩ => ⟨S512x10000x16, .f32⟩
  | .hbm, ⟨119, _⟩ => ⟨S512x10000x16, .f32⟩
  | .hbm, ⟨120, _⟩ => ⟨S512x10000x16, .f32⟩
  | .hbm, ⟨121, _⟩ => ⟨S_, .f32⟩
  | .hbm, ⟨122, _⟩ => ⟨S512x10000, .f32⟩
  | .hbm, ⟨123, _⟩ => ⟨S512x10000, .f32⟩
  | .hbm, ⟨124, _⟩ => ⟨S512x10000, .f32⟩
  | .hbm, ⟨125, _⟩ => ⟨S512x3, .f32⟩
  | _, _ => ⟨S512x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_values : Ref sig .tc := ⟨.hbm, 7, rfl⟩
abbrev main_indices : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_cst : Ref sig .tc := ⟨.hbm, 28, rfl⟩
abbrev main_call0_v14 : Ref sig .tc := ⟨.hbm, 29, rfl⟩
abbrev main_v1 : Ref sig .tc := ⟨.hbm, 30, rfl⟩
abbrev main_v2 : Ref sig .tc := ⟨.hbm, 31, rfl⟩
abbrev main_cst : Ref sig .tc := ⟨.hbm, 32, rfl⟩
abbrev main_v3 : Ref sig .tc := ⟨.hbm, 33, rfl⟩
abbrev main_v4 : Ref sig .tc := ⟨.hbm, 34, rfl⟩
abbrev main_cst_0 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_1 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_2 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_3 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_4 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_5 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩

abbrev nD : Nat := 1
abbrev τ : Topo := Topo.v7x

variable {F : FTy → Type} [FloatOps F]
-- ==== Proof.Block.lean ====
module

public import proofs.«01_k».proof.Proof.Gen.KernelIdeal.Frame

/-!
# What one block computes

The kernel body handles 400 splats at a time. For each of the two coefficient arrays it picks sixteen coefficients of
every splat: it takes the greatest magnitude of the row, finds the least lane that holds it, reads the coefficient there,
and strikes the lane out by writing -1 over its magnitude. The definitions below name these steps; the theorems say that
the generated body is made of them.
-/

@[expose] public section

set_option maxRecDepth 16384

noncomputable section

namespace Cert.Splat

open Cert.KernelIdeal Cert.KernelIdeal.Gen
open Idealize.ShloMosaic Idealize.ShloMosaic.TcCoe

variable {F : FTy → Type} [FloatOps F]

/-! ## The rounds -/

/-- The lane numbers. -/
abbrev lanes : IVec S400x1024 32 := iota .tc S400x1024 32 [1] iota_S400x1024_d1_w32

/-- Per row, the least lane that holds the row's greatest entry. -/
def place (a : FVec F S400x1024 .f32) : IVec S400x1 32 :=
  shapeCast S400x1
    (multiReductionI .minsi [1] S400
      (select
        (cmpf .oeq a
          (broadcastTo S400x1024
            (shapeCast S400x1 (multiReduction .maximumf [1] S400 a 0xFF800000#32 reduces_S400x1024_S400 (.inl rfl) rfl)
              shapeCasts_S400_S400x1)
            broadcasts_S400x1_S400x1024))
        lanes (broadcast S400x1024 1024#32))
      2147483647#32 reduces_S400x1024_S400 rfl)
    shapeCasts_S400_S400x1

/-- The mask of that lane. -/
def hit (a : FVec F S400x1024 .f32) : IVec S400x1024 1 :=
  cmpi .eq lanes (broadcastTo S400x1024 (place a) broadcasts_S400x1_S400x1024)

/-- The coefficient at that lane: the sum of the row with every other lane put to zero. -/
def coef (v a : FVec F S400x1024 .f32) : FVec F S400x1 .f32 :=
  shapeCast S400x1
    (multiReduction .add [1] S400 (select (hit a) v (broadcast S400x1024 (Scalar.ofBits .f32 0x00000000#32))) 0x00000000#32
      reduces_S400x1024_S400 (.inl rfl) rfl)
    shapeCasts_S400_S400x1

/-- The frequency of that lane. -/
def freq (a : FVec F S400x1024 .f32) : FVec F S400x1 .f32 :=
  mulf (sitofp .f32 (place a)) (broadcast S400x1 (Scalar.ofBits .f32 0x3F800000#32))

/-- The magnitudes with that lane struck out. -/
def strike (a : FVec F S400x1024 .f32) : FVec F S400x1024 .f32 :=
  select (hit a) (broadcast S400x1024 (Scalar.ofBits .f32 0xBF800000#32)) a

/-- The magnitudes before round `r`. -/
def rounds (v : FVec F S400x1024 .f32) : ℕ → FVec F S400x1024 .f32
  | 0 => absf v
  | r + 1 => strike (rounds v r)

/-- One cosine of a wave. -/
def waveTerm (t : FVec F S400x512 .f32) (v a : FVec F S400x1024 .f32) : FVec F S400x512 .f32 :=
  mulf (broadcastTo S400x512 (coef v a) broadcasts_S400x1_S400x512)
    (cos (mulf
      (broadcastTo S400x512 (mulf (broadcast S400x1 (Scalar.ofBits .f32 0x40C90FDB#32)) (freq a)) broadcasts_S400x1_S400x512) t))

/-- The first `k` cosines of a wave, added up. -/
def wave (t : FVec F S400x512 .f32) (v : FVec F S400x1024 .f32) : ℕ → FVec F S400x512 .f32
  | 0 => broadcast S400x512 (Scalar.ofBits .f32 0x00000000#32)
  | r + 1 => addf (wave t v r) (waveTerm t v (rounds v r))

/-! ## The weights -/

/-- The distances of the points from the splats' centres on one axis. -/
def apart (r : FVec F S1x512 .f32) (p : FVec F S400x1 .f32) : FVec F S400x512 .f32 :=
  subf (broadcastTo S400x512 (shapeCast S1x512 r shapeCasts_S1x512_S1x512) broadcasts_S1x512_S400x512)
    (broadcastTo S400x512 p broadcasts_S400x1_S400x512)

/-- The points in the splats' own frames, first coordinate. -/
def along (r0 r1 : FVec F S1x512 .f32) (p0 p1 o : FVec F S400x1 .f32) : FVec F S400x512 .f32 :=
  addf (mulf (broadcastTo S400x512 (cos o) broadcasts_S400x1_S400x512) (apart r0 p0))
    (mulf (broadcastTo S400x512 (sin o) broadcasts_S400x1_S400x512) (apart r1 p1))

/-- The points in the splats' own frames, second coordinate. -/
def across (r0 r1 : FVec F S1x512 .f32) (p0 p1 o : FVec F S400x1 .f32) : FVec F S400x512 .f32 :=
  addf (mulf (broadcastTo S400x512 (subf (broadcast S400x1 (Scalar.ofBits .f32 0x00000000#32)) (sin o)) broadcasts_S400x1_S400x512) (apart r0 p0))
    (mulf (broadcastTo S400x512 (cos o) broadcasts_S400x1_S400x512) (apart r1 p1))

/-- The Gaussian of the scaled coordinates. -/
def envelope (tx ty : FVec F S400x512 .f32) (s0 s1 : FVec F S400x1 .f32) : FVec F S400x512 .f32 :=
  exp (mulf (broadcast S400x512 (Scalar.ofBits .f32 0xBF000000#32))
    (addf
      (mulf (mulf tx (broadcastTo S400x512 s0 broadcasts_S400x1_S400x512)) (mulf tx (broadcastTo S400x512 s0 broadcasts_S400x1_S400x512)))
      (mulf (mulf ty (broadcastTo S400x512 s1 broadcasts_S400x1_S400x512)) (mulf ty (broadcastTo S400x512 s1 broadcasts_S400x1_S400x512)))))

/-- The weight of every splat of the block at every point. -/
def weights (r0 r1 : FVec F S1x512 .f32) (p0 p1 o s0 s1 : FVec F S400x1 .f32) (vx vy : FVec F S400x1024 .f32) :
    FVec F S400x512 .f32 :=
  mulf
    (mulf (envelope (along r0 r1 p0 p1 o) (across r0 r1 p0 p1 o) s0 s1) (wave (along r0 r1 p0 p1 o) vx 16))
    (wave (across r0 r1 p0 p1 o) vy 16)

/-- One row of the output after the block: what it held, and the block's weighted colours. -/
def addRow (w : FVec F S400x512 .f32) (old : FVec F S1x512 .f32) (colour : FVec F S400x1 .f32) : FVec F S1x512 .f32 :=
  addf (shapeCast S1x512 old shapeCasts_S1x512_S1x512)
    (shapeCast S1x512
      (multiReduction .add [0] S512 (mulf w (broadcastTo S400x512 colour broadcasts_S400x1_S400x512)) 0x00000000#32
        reduces_S400x512_S512 (.inl rfl) rfl)
      shapeCasts_S512_S1x512)

/-! ## The parts of the input blocks -/

/-- The first coordinates of the points. -/
abbrev row0 (x : Vec F S2x512 .f32) : FVec F S1x512 .f32 := View.ld x (Rect.unit (s := S2x512) ![0, 0] S1x512.size inb_S2x512_S1x512_0_0)

/-- The second coordinates of the points. -/
abbrev row1 (x : Vec F S2x512 .f32) : FVec F S1x512 .f32 := View.ld x (Rect.unit (s := S2x512) ![1, 0] S1x512.size inb_S2x512_S1x512_1_0)

/-- The first column of a block of pairs. -/
abbrev col0 (x : Vec F S400x2 .f32) : FVec F S400x1 .f32 := View.ld x (Rect.unit (s := S400x2) ![0, 0] S400x1.size inb_S400x2_S400x1_0_0)

/-- The second column of a block of pairs. -/
abbrev col1 (x : Vec F S400x2 .f32) : FVec F S400x1 .f32 := View.ld x (Rect.unit (s := S400x2) ![0, 1] S400x1.size inb_S400x2_S400x1_0_1)

/-- The whole block of angles. -/
abbrev rRot : Rect S400x1 := Rect.unit (s := S400x1) ![0, 0] S400x1.size inb_S400x1_S400x1_0_0

/-- The whole block of coefficients. -/
abbrev rCoef : Rect S400x1024 := Rect.unit (s := S400x1024) ![0, 0] S400x1024.size inb_S400x1024_S400x1024_0_0

/-! ## The generated body is made of these steps -/

theorem place_fold (a : FVec F S400x1024 .f32) :
    shapeCast S400x1
      (multiReductionI .minsi (no_index [1]) S400
        (select
          (cmpf .oeq a
            (broadcastTo S400x1024
              (shapeCast S400x1 (multiReduction .maximumf (no_index [1]) S400 a 0xFF800000#32 reduces_S400x1024_S400 (.inl rfl) rfl)
                shapeCasts_S400_S400x1)
              broadcasts_S400x1_S400x1024))
          (iota .tc S400x1024 32 (no_index [1]) iota_S400x1024_d1_w32) (broadcast S400x1024 1024#32))
        2147483647#32 reduces_S400x1024_S400 rfl)
      shapeCasts_S400_S400x1 = place a := rfl

theorem hit_fold (a : FVec F S400x1024 .f32) :
    cmpi .eq (iota .tc S400x1024 32 (no_index [1]) iota_S400x1024_d1_w32) (broadcastTo S400x1024 (place a) broadcasts_S400x1_S400x1024)
      = hit a := rfl

theorem coef_fold (v a : FVec F S400x1024 .f32) :
    shapeCast S400x1
      (multiReduction .add (no_index [1]) S400 (select (hit a) v (broadcast S400x1024 (Scalar.ofBits .f32 0x00000000#32))) 0x00000000#32
        reduces_S400x1024_S400 (.inl rfl) rfl)
      shapeCasts_S400_S400x1 = coef v a := rfl

theorem freq_fold (a : FVec F S400x1024 .f32) :
    mulf (sitofp .f32 (place a)) (broadcast S400x1 (Scalar.ofBits .f32 0x3F800000#32)) = freq a := rfl

theorem strike_fold (a : FVec F S400x1024 .f32) :
    select (hit a) (broadcast S400x1024 (Scalar.ofBits .f32 0xBF800000#32)) a = strike a := rfl

/-- The block's weights as the run at the first point computes them. -/
theorem weights_A (c : Dev nD) (arg1 : Memref sig .tc .vmem S2x512 .f32) (harg1 : arg1.IsWhole)
    (arg3 : Memref sig .tc .vmem S400x2 .f32) (harg3 : arg3.IsWhole) (arg4 : Memref sig .tc .vmem S400x2 .f32) (harg4 : arg4.IsWhole)
    (arg5 : Memref sig .tc .vmem S400x1 .f32) (harg5 : arg5.IsWhole) (arg6 : Memref sig .tc .vmem S400x1024 .f32) (harg6 : arg6.IsWhole)
    (arg7 : Memref sig .tc .vmem S400x1024 .f32) (harg7 : arg7.IsWhole)
    (x0 : Vec F S2x512 .f32) (x2 : Vec F S400x2 .f32) (x3 : Vec F S400x2 .f32) (x4 : Vec F S400x1 .f32)
    (x5 x6 : Vec F S400x1024 .f32) :
    kernelRun0_A.sl.r_110 c arg1 harg1 arg3 harg3 arg4 harg4 arg5 harg5 arg6 harg6 arg7 harg7 x0 x2 x3 x4 x5 x6
      = weights (row0 x0) (row1 x0) (col0 x2) (col1 x2) (View.ld x4 rRot) (col0 x3) (col1 x3)
          (shapeCast S400x1024 (View.ld x5 rCoef) shapeCasts_S400x1024_S400x1024)
          (shapeCast S400x1024 (View.ld x6 rCoef) shapeCasts_S400x1024_S400x1024) := by
  simp only [
    kernelRun0_A.sl.r, kernelRun0_A.sl.r_1, kernelRun0_A.sl.r_2, kernelRun0_A.sl.r_3, kernelRun0_A.sl.r_4, kernelRun0_A.sl.r_5, kernelRun0_A.sl.r_6,
    kernelRun0_A.sl.r_7, kernelRun0_A.sl.r_8, kernelRun0_A.sl.r_9, kernelRun0_A.sl.r_10, kernelRun0_A.sl.r_11, kernelRun0_A.sl.r_12,
    kernelRun0_A.sl.r_13, kernelRun0_A.sl.r_14, kernelRun0_A.sl.r_15, kernelRun0_A.sl.r_16, kernelRun0_A.sl.r_17, kernelRun0_A.sl.r_18,
    kernelRun0_A.sl.r_19, kernelRun0_A.sl.r_20, kernelRun0_A.sl.r_21, kernelRun0_A.sl.r_22, kernelRun0_A.sl.r_23, kernelRun0_A.sl.r_24,
    kernelRun0_A.sl.r_25, kernelRun0_A.sl.r_26, kernelRun0_A.sl.r_27, kernelRun0_A.sl.r_28, kernelRun0_A.sl.r_29, kernelRun0_A.sl.r_30,
    kernelRun0_A.sl.r_31, kernelRun0_A.sl.r_32, kernelRun0_A.sl.r_33, kernelRun0_A.sl.r_34, kernelRun0_A.sl.r_35, kernelRun0_A.sl.r_36,
    kernelRun0_A.sl.r_37, kernelRun0_A.sl.r_38, kernelRun0_A.sl.r_39, kernelRun0_A.sl.r_40, kernelRun0_A.sl.r_41, kernelRun0_A.sl.r_42,
    kernelRun0_A.sl.r_43, kernelRun0_A.sl.r_44, kernelRun0_A.sl.r_45, kernelRun0_A.sl.r_46, kernelRun0_A.sl.r_47, kernelRun0_A.sl.r_48,
    kernelRun0_A.sl.r_49, kernelRun0_A.sl.r_50, kernelRun0_A.sl.r_51, kernelRun0_A.sl.r_52, kernelRun0_A.sl.r_53, kernelRun0_A.sl.r_54,
    kernelRun0_A.sl.r_55, kernelRun0_A.sl.r_56, kernelRun0_A.sl.r_57, kernelRun0_A.sl.r_58, kernelRun0_A.sl.r_59, kernelRun0_A.sl.r_60,
    kernelRun0_A.sl.r_61, kernelRun0_A.sl.r_62, kernelRun0_A.sl.r_63, kernelRun0_A.sl.r_64, kernelRun0_A.sl.r_65, kernelRun0_A.sl.r_66,
    kernelRun0_A.sl.r_67, kernelRun0_A.sl.r_68, kernelRun0_A.sl.r_69, kernelRun0_A.sl.r_70, kernelRun0_A.sl.r_71, kernelRun0_A.sl.r_72,
    kernelRun0_A.sl.r_73, kernelRun0_A.sl.r_74, kernelRun0_A.sl.r_75, kernelRun0_A.sl.r_76, kernelRun0_A.sl.r_77, kernelRun0_A.sl.r_78,
    kernelRun0_A.sl.r_79, kernelRun0_A.sl.r_80, kernelRun0_A.sl.r_81, kernelRun0_A.sl.r_82, kernelRun0_A.sl.r_83, kernelRun0_A.sl.r_84,
    kernelRun0_A.sl.r_85, kernelRun0_A.sl.r_86, kernelRun0_A.sl.r_87, kernelRun0_A.sl.r_88, kernelRun0_A.sl.r_89, kernelRun0_A.sl.r_90,
    kernelRun0_A.sl.r_91, kernelRun0_A.sl.r_92, kernelRun0_A.sl.r_93, kernelRun0_A.sl.r_94, kernelRun0_A.sl.r_95, kernelRun0_A.sl.r_96,
    kernelRun0_A.sl.r_97, kernelRun0_A.sl.r_98, kernelRun0_A.sl.r_99, kernelRun0_A.sl.r_100, kernelRun0_A.sl.r_101, kernelRun0_A.sl.r_102,
    kernelRun0_A.sl.r_103, kernelRun0_A.sl.r_104, kernelRun0_A.sl.r_105, kernelRun0_A.sl.r_106, kernelRun0_A.sl.r_107, kernelRun0_A.sl.r_108,
    kernelRun0_A.sl.r_109, kernelRun0_A.sl.r_110, kernelRun0_A.sl.v3, kernelRun0_A.sl.cst_12, kernelRun0_A.sl.cst_239,
    k0_pay2, k0_pay3, k0_pay4, k0_pay5, k0_pay6, k0_pay7, k0_pay8, k0_pay9, k0_pay10, k0_pay11, k0_pay12, k0_pay13, k0_pay14, k0_pay15, k0_pay16,
    k0_pay17, k0_pay18, k0_pay19, k0_pay20, k0_pay21, k0_pay22, k0_pay23, k0_pay24, k0_pay25, k0_pay26, k0_pay27, k0_pay28, k0_pay29, k0_pay30,
    k0_pay31, k0_pay32, k0_pay33, k0_pay34, k0_pay35, k0_pay36, k0_pay37, k0_pay38, k0_pay39, k0_pay40, k0_pay41, k0_pay42, k0_pay43, k0_pay44,
    k0_pay45, k0_pay46, k0_pay47, k0_pay48, k0_pay49, k0_pay50, k0_pay51, k0_pay52, k0_pay53, k0_pay54, k0_pay55, k0_pay56, k0_pay57, k0_pay58,
    k0_pay59, k0_pay60, k0_pay61, k0_pay62, k0_pay63, k0_pay64, k0_pay65, k0_pay66, k0_pay67, k0_pay68, k0_pay69, k0_pay70, k0_pay71, k0_pay72,
    k0_pay73, k0_pay74, k0_pay75, k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97, k0_pay98, k0_pay99, k0_pay100,
    k0_pay101, k0_pay102, k0_pay103, k0_pay104, k0_pay105, k0_pay106, k0_pay107, k0_pay108, k0_pay109, k0_pay110, k0_pay111, k0_pay112, k0_pay113,
    k0_pay114, k0_pay115, k0_pay116, k0_pay117, k0_pay118, k0_pay119, k0_pay120, k0_pay121, k0_pay122, k0_pay123, k0_pay124, k0_pay125, k0_pay126,
    k0_pay127, k0_pay128, k0_pay129, k0_pay130, k0_pay131, k0_pay132, k0_pay133, k0_pay134, k0_pay135, k0_pay136, k0_pay137, k0_pay138, k0_pay139,
    k0_pay140, k0_pay141, k0_pay142, k0_pay143, k0_pay144, k0_pay145, k0_pay146, k0_pay147, k0_pay148, k0_pay149, k0_pay150, k0_pay151, k0_pay152,
    k0_pay153, k0_pay154, k0_pay155, k0_pay156, k0_pay157, k0_pay158, k0_pay159, k0_pay160, k0_pay161, k0_pay162, k0_pay163, k0_pay164, k0_pay165,
    k0_pay166, k0_pay167, k0_pay168, k0_pay169, k0_pay170, k0_pay171, k0_pay172, k0_pay173, k0_pay174, k0_pay175, k0_pay176, k0_pay177, k0_pay178,
    k0_pay179, k0_pay180, k0_pay181, k0_pay182, k0_pay183, k0_pay184, k0_pay185, k0_pay186,
    View.readAt_eq_ld, harg1.read_unread, harg3.read_unread, harg4.read_unread, harg5.read_unread, harg6.read_unread, harg7.read_unread,
    place_fold, hit_fold, coef_fold, freq_fold, strike_fold]
  simp only [weights, wave, waveTerm, rounds, envelope, along, across, apart, row0, row1, col0, col1, rRot, rCoef]

/-- The block's weights as the run at a later point computes them. -/
theorem weights_B (c : Dev nD) (arg1 : Memref sig .tc .vmem S2x512 .f32) (harg1 : arg1.IsWhole)
    (arg3 : Memref sig .tc .vmem S400x2 .f32) (harg3 : arg3.IsWhole) (arg4 : Memref sig .tc .vmem S400x2 .f32) (harg4 : arg4.IsWhole)
    (arg5 : Memref sig .tc .vmem S400x1 .f32) (harg5 : arg5.IsWhole) (arg6 : Memref sig .tc .vmem S400x1024 .f32) (harg6 : arg6.IsWhole)
    (arg7 : Memref sig .tc .vmem S400x1024 .f32) (harg7 : arg7.IsWhole)
    (x0 : Vec F S2x512 .f32) (x2 : Vec F S400x2 .f32) (x3 : Vec F S400x2 .f32) (x4 : Vec F S400x1 .f32)
    (x5 x6 : Vec F S400x1024 .f32) :
    kernelRun0_B.sl.r_110 c arg1 harg1 arg3 harg3 arg4 harg4 arg5 harg5 arg6 harg6 arg7 harg7 x0 x2 x3 x4 x5 x6
      = weights (row0 x0) (row1 x0) (col0 x2) (col1 x2) (View.ld x4 rRot) (col0 x3) (col1 x3)
          (shapeCast S400x1024 (View.ld x5 rCoef) shapeCasts_S400x1024_S400x1024)
          (shapeCast S400x1024 (View.ld x6 rCoef) shapeCasts_S400x1024_S400x1024) := by
  simp only [
    kernelRun0_B.sl.r, kernelRun0_B.sl.r_1, kernelRun0_B.sl.r_2, kernelRun0_B.sl.r_3, kernelRun0_B.sl.r_4, kernelRun0_B.sl.r_5, kernelRun0_B.sl.r_6,
    kernelRun0_B.sl.r_7, kernelRun0_B.sl.r_8, kernelRun0_B.sl.r_9, kernelRun0_B.sl.r_10, kernelRun0_B.sl.r_11, kernelRun0_B.sl.r_12,
    kernelRun0_B.sl.r_13, kernelRun0_B.sl.r_14, kernelRun0_B.sl.r_15, kernelRun0_B.sl.r_16, kernelRun0_B.sl.r_17, kernelRun0_B.sl.r_18,
    kernelRun0_B.sl.r_19, kernelRun0_B.sl.r_20, kernelRun0_B.sl.r_21, kernelRun0_B.sl.r_22, kernelRun0_B.sl.r_23, kernelRun0_B.sl.r_24,
    kernelRun0_B.sl.r_25, kernelRun0_B.sl.r_26, kernelRun0_B.sl.r_27, kernelRun0_B.sl.r_28, kernelRun0_B.sl.r_29, kernelRun0_B.sl.r_30,
    kernelRun0_B.sl.r_31, kernelRun0_B.sl.r_32, kernelRun0_B.sl.r_33, kernelRun0_B.sl.r_34, kernelRun0_B.sl.r_35, kernelRun0_B.sl.r_36,
    kernelRun0_B.sl.r_37, kernelRun0_B.sl.r_38, kernelRun0_B.sl.r_39, kernelRun0_B.sl.r_40, kernelRun0_B.sl.r_41, kernelRun0_B.sl.r_42,
    kernelRun0_B.sl.r_43, kernelRun0_B.sl.r_44, kernelRun0_B.sl.r_45, kernelRun0_B.sl.r_46, kernelRun0_B.sl.r_47, kernelRun0_B.sl.r_48,
    kernelRun0_B.sl.r_49, kernelRun0_B.sl.r_50, kernelRun0_B.sl.r_51, kernelRun0_B.sl.r_52, kernelRun0_B.sl.r_53, kernelRun0_B.sl.r_54,
    kernelRun0_B.sl.r_55, kernelRun0_B.sl.r_56, kernelRun0_B.sl.r_57, kernelRun0_B.sl.r_58, kernelRun0_B.sl.r_59, kernelRun0_B.sl.r_60,
    kernelRun0_B.sl.r_61, kernelRun0_B.sl.r_62, kernelRun0_B.sl.r_63, kernelRun0_B.sl.r_64, kernelRun0_B.sl.r_65, kernelRun0_B.sl.r_66,
    kernelRun0_B.sl.r_67, kernelRun0_B.sl.r_68, kernelRun0_B.sl.r_69, kernelRun0_B.sl.r_70, kernelRun0_B.sl.r_71, kernelRun0_B.sl.r_72,
    kernelRun0_B.sl.r_73, kernelRun0_B.sl.r_74, kernelRun0_B.sl.r_75, kernelRun0_B.sl.r_76, kernelRun0_B.sl.r_77, kernelRun0_B.sl.r_78,
    kernelRun0_B.sl.r_79, kernelRun0_B.sl.r_80, kernelRun0_B.sl.r_81, kernelRun0_B.sl.r_82, kernelRun0_B.sl.r_83, kernelRun0_B.sl.r_84,
    kernelRun0_B.sl.r_85, kernelRun0_B.sl.r_86, kernelRun0_B.sl.r_87, kernelRun0_B.sl.r_88, kernelRun0_B.sl.r_89, kernelRun0_B.sl.r_90,
    kernelRun0_B.sl.r_91, kernelRun0_B.sl.r_92, kernelRun0_B.sl.r_93, kernelRun0_B.sl.r_94, kernelRun0_B.sl.r_95, kernelRun0_B.sl.r_96,
    kernelRun0_B.sl.r_97, kernelRun0_B.sl.r_98, kernelRun0_B.sl.r_99, kernelRun0_B.sl.r_100, kernelRun0_B.sl.r_101, kernelRun0_B.sl.r_102,
    kernelRun0_B.sl.r_103, kernelRun0_B.sl.r_104, kernelRun0_B.sl.r_105, kernelRun0_B.sl.r_106, kernelRun0_B.sl.r_107, kernelRun0_B.sl.r_108,
    kernelRun0_B.sl.r_109, kernelRun0_B.sl.r_110, kernelRun0_B.sl.v3, kernelRun0_B.sl.cst_12, kernelRun0_B.sl.cst_239,
    k0_pay2, k0_pay3, k0_pay4, k0_pay5, k0_pay6, k0_pay7, k0_pay8, k0_pay9, k0_pay10, k0_pay11, k0_pay12, k0_pay13, k0_pay14, k0_pay15, k0_pay16,
    k0_pay17, k0_pay18, k0_pay19, k0_pay20, k0_pay21, k0_pay22, k0_pay23, k0_pay24, k0_pay25, k0_pay26, k0_pay27, k0_pay28, k0_pay29, k0_pay30,
    k0_pay31, k0_pay32, k0_pay33, k0_pay34, k0_pay35, k0_pay36, k0_pay37, k0_pay38, k0_pay39, k0_pay40, k0_pay41, k0_pay42, k0_pay43, k0_pay44,
    k0_pay45, k0_pay46, k0_pay47, k0_pay48, k0_pay49, k0_pay50, k0_pay51, k0_pay52, k0_pay53, k0_pay54, k0_pay55, k0_pay56, k0_pay57, k0_pay58,
    k0_pay59, k0_pay60, k0_pay61, k0_pay62, k0_pay63, k0_pay64, k0_pay65, k0_pay66, k0_pay67, k0_pay68, k0_pay69, k0_pay70, k0_pay71, k0_pay72,
    k0_pay73, k0_pay74, k0_pay75, k0_pay76, k0_pay77, k0_pay78, k0_pay79, k0_pay80, k0_pay81, k0_pay82, k0_pay83, k0_pay84, k0_pay85, k0_pay86,
    k0_pay87, k0_pay88, k0_pay89, k0_pay90, k0_pay91, k0_pay92, k0_pay93, k0_pay94, k0_pay95, k0_pay96, k0_pay97, k0_pay98, k0_pay99, k0_pay100,
    k0_pay101, k0_pay102, k0_pay103, k0_pay104, k0_pay105, k0_pay106, k0_pay107, k0_pay108, k0_pay109, k0_pay110, k0_pay111, k0_pay112, k0_pay113,
    k0_pay114, k0_pay115, k0_pay116, k0_pay117, k0_pay118, k0_pay119, k0_pay120, k0_pay121, k0_pay122, k0_pay123, k0_pay124, k0_pay125, k0_pay126,
    k0_pay127, k0_pay128, k0_pay129, k0_pay130, k0_pay131, k0_pay132, k0_pay133, k0_pay134, k0_pay135, k0_pay136, k0_pay137, k0_pay138, k0_pay139,
    k0_pay140, k0_pay141, k0_pay142, k0_pay143, k0_pay144, k0_pay145, k0_pay146, k0_pay147, k0_pay148, k0_pay149, k0_pay150, k0_pay151, k0_pay152,
    k0_pay153, k0_pay154, k0_pay155, k0_pay156, k0_pay157, k0_pay158, k0_pay159, k0_pay160, k0_pay161, k0_pay162, k0_pay163, k0_pay164, k0_pay165,
    k0_pay166, k0_pay167, k0_pay168, k0_pay169, k0_pay170, k0_pay171, k0_pay172, k0_pay173, k0_pay174, k0_pay175, k0_pay176, k0_pay177, k0_pay178,
    k0_pay179, k0_pay180, k0_pay181, k0_pay182, k0_pay183, k0_pay184, k0_pay185, k0_pay186,
    View.readAt_eq_ld, harg1.read_unread, harg3.read_unread, harg4.read_unread, harg5.read_unread, harg6.read_unread, harg7.read_unread,
    place_fold, hit_fold, coef_fold, freq_fold, strike_fold]
  simp only [weights, wave, waveTerm, rounds, envelope, along, across, apart, row0, row1, col0, col1, rRot, rCoef]

end Cert.Splat
-- ==== Proof.Selection.lean ====
/-
  TAKING THE GREATEST ENTRY AGAIN AND AGAIN IS A STABLE SORT. Sixteen rounds of "find the first position that holds
  the greatest entry, then overwrite it by a floor below every entry" visit the positions in the order in which a
  stable descending sort lists them. Nothing here mentions a program: the keys are any linear order.
-/
module

public import Idealize.ShloMosaic.Lib.SortPrefix

@[expose] public section

namespace Cert.Splat

open Idealize.ShloMosaic

variable {α : Type} [LinearOrder α] {n : ℕ}

/-- `p` is the first position that holds the greatest entry of `a`. -/
structure FirstMax (a : Fin n → α) (p : Fin n) : Prop where
  le : ∀ j, a j ≤ a p
  first : ∀ j, j < p → a j < a p

/-- There is only one such position. -/
theorem FirstMax.unique {a : Fin n → α} {p q : Fin n} (hp : FirstMax a p) (hq : FirstMax a q) : p = q := by
  rcases lt_trichotomy p q with h | h | h
  · exact absurd (hp.le q) (not_le.mpr (hq.first p h))
  · exact h
  · exact absurd (hq.le p) (not_le.mpr (hp.first q h))

/-- A run of rounds from `key`: round `r` sees the entries `st r`, picks `σ r`, and overwrites it by `floor`. -/
structure Rounds (key : Fin n → α) (floor : α) (st : ℕ → Fin n → α) (σ : ℕ → Fin n) : Prop where
  zero : ∀ i, st 0 i = key i
  pick : ∀ r, FirstMax (st r) (σ r)
  next : ∀ r i, st (r + 1) i = if i = σ r then floor else st r i

namespace Rounds

variable {key : Fin n → α} {floor : α} {st : ℕ → Fin n → α} {σ : ℕ → Fin n} (h : Rounds key floor st σ)
include h

/-- A position not picked so far still holds its key. -/
theorem st_of_unpicked (r : ℕ) (i : Fin n) (hi : ∀ j < r, σ j ≠ i) : st r i = key i := by
  induction r with
  | zero => exact h.zero i
  | succ r ih =>
    rw [h.next, if_neg fun e => hi r (Nat.lt_succ_self r) e.symm, ih fun j hj => hi j (Nat.lt_succ_of_lt hj)]

/-- A position picked so far holds the floor. -/
theorem st_of_picked (r j : ℕ) (hj : j < r) : st r (σ j) = floor := by
  induction r with
  | zero => exact absurd hj (Nat.not_lt_zero j)
  | succ r ih =>
    rw [h.next]
    split
    · rfl
    · rename_i hne
      refine ih (lt_of_le_of_ne (Nat.le_of_lt_succ hj) fun e => hne (by rw [e]))

/-- While fewer rounds than positions have passed, the pick is a new position. -/
theorem pick_new (hf : ∀ i, floor < key i) (r : ℕ) (hr : r < n) : ∀ j < r, σ j ≠ σ r := by
  classical
  intro j hj e
  obtain ⟨i, hi⟩ : ∃ i : Fin n, ∀ j < r, σ j ≠ i := by
    by_contra hno
    push Not at hno
    have hsub : (Finset.univ : Finset (Fin n)) ⊆ (Finset.range r).image σ := fun i _ => by
      obtain ⟨j, hj, e⟩ := hno i
      exact Finset.mem_image.mpr ⟨j, Finset.mem_range.mpr hj, e⟩
    have hc := (Finset.card_le_card hsub).trans Finset.card_image_le
    rw [Finset.card_univ, Fintype.card_fin, Finset.card_range] at hc
    omega
  have h1 := (h.pick r).le i
  rw [h.st_of_unpicked r i hi, ← e, h.st_of_picked r j hj] at h1
  exact absurd h1 (not_le.mpr (hf i))

/-- The pick holds its own key. -/
theorem st_pick (hf : ∀ i, floor < key i) (r : ℕ) (hr : r < n) : st r (σ r) = key (σ r) :=
  h.st_of_unpicked r _ (h.pick_new hf r hr)

/-- Among the positions not picked before, the pick is first: greater key, or equal key and not later. -/
theorem pick_first (hf : ∀ i, floor < key i) (r : ℕ) (hr : r < n) (i : Fin n) (hi : ∀ j < r, σ j ≠ i) :
    key i < key (σ r) ∨ (key i = key (σ r) ∧ σ r ≤ i) := by
  have e1 := h.st_of_unpicked r i hi
  have e2 := h.st_pick hf r hr
  rcases lt_or_ge i (σ r) with hlt | hge
  · have := (h.pick r).first i hlt
    rw [e1, e2] at this
    exact Or.inl this
  · have := (h.pick r).le i
    rw [e1, e2] at this
    rcases lt_or_eq_of_le this with hl | he
    · exact Or.inl hl
    · exact Or.inr ⟨he, hge⟩

end Rounds

/-- "Greater key first, equal keys in position order", as a Boolean. -/
def keyBefore (key : Fin n → α) (k k' : Fin n) : Bool :=
  decide (key k' < key k) || (decide (key k = key k') && decide (k < k'))

/-- It is a strict total order on the positions. -/
theorem strictTotal_keyBefore (key : Fin n → α) : StrictTotalBefore (keyBefore key) :=
  StrictTotalBefore.of_key_then_position (fun a b => decide (b < a)) key (fun a => by simp)
    (fun a b c hab hbc => by
      simp only [decide_eq_true_eq] at hab hbc ⊢
      exact lt_trans hbc hab)
    (fun a b => by
      simp only [decide_eq_true_eq]
      rcases lt_trichotomy a b with h | h | h
      · exact Or.inr (Or.inr h)
      · exact Or.inr (Or.inl h)
      · exact Or.inl h)

/-- On positions in increasing order a stable sort by the key alone is the sort by the key and then the position: an
    element is only ever compared with later ones. -/
theorem stableSort_key (key : Fin n → α) (l : List (Fin n)) (hl : l.Pairwise (· < ·)) :
    stableSort (fun k k' => decide (key k' < key k)) l = stableSort (keyBefore key) l := by
  induction l with
  | nil => rfl
  | cons a l ih =>
    obtain ⟨ha, hl'⟩ := List.pairwise_cons.mp hl
    unfold stableSort
    rw [ih hl']
    refine insertBefore_congr _ _ a _ fun b hb => ?_
    have hab := ha b ((perm_stableSort _ l).mem_iff.mp hb)
    unfold keyBefore
    rw [decide_eq_false (not_lt.mpr hab.le), Bool.and_false, Bool.or_false]

/-- **The rounds visit the positions in the order of the stable descending sort.** -/
theorem Rounds.sortedFrom_eq {key : Fin n → α} {floor : α} {st : ℕ → Fin n → α} {σ : ℕ → Fin n}
    (h : Rounds key floor st σ) (hf : ∀ i, floor < key i) {k : ℕ} (hk : k ≤ n) (r : Fin k) :
    sortedFrom (fun k k' => decide (key k' < key k)) (r.castLE hk) = σ r.val := by
  have e : sortPositions n (fun k k' => decide (key k' < key k)) = sortPositions n (keyBefore key) :=
    stableSort_key key _ (List.pairwise_lt_finRange n)
  have e' : sortedFrom (fun k k' => decide (key k' < key k)) (r.castLE hk)
      = sortedFrom (keyBefore key) (r.castLE hk) := by
    unfold sortedFrom
    rw [List.get_of_eq e]
    rfl
  rw [e']
  refine (strictTotal_keyBefore key).sortedFrom_eq_of_prefix hk (fun j : Fin k => σ j.val) ?_ ?_ ?_ r
  · intro i j hij
    refine Fin.ext (le_antisymm ?_ ?_) <;> refine not_lt.mp fun hlt => ?_
    · exact h.pick_new hf i.val (by omega) j.val hlt hij.symm
    · exact h.pick_new hf j.val (by omega) i.val hlt hij
  · intro i j hij
    have := h.pick_first hf i.val (by omega) (σ j.val) fun t ht => h.pick_new hf j.val (by omega) t (lt_trans ht hij)
    unfold keyBefore
    rw [Bool.or_eq_false_iff, Bool.and_eq_false_iff, decide_eq_false_iff_not, decide_eq_false_iff_not,
      decide_eq_false_iff_not]
    rcases this with hl | ⟨he, hle⟩
    · exact ⟨not_lt.mpr hl.le, Or.inl hl.ne⟩
    · exact ⟨not_lt.mpr he.le, Or.inr (not_lt.mpr hle)⟩
  · intro i p hp
    have := h.pick_first hf i.val (by omega) p fun t ht => hp ⟨t, by omega⟩
    unfold keyBefore
    rw [Bool.or_eq_false_iff, Bool.and_eq_false_iff, decide_eq_false_iff_not, decide_eq_false_iff_not,
      decide_eq_false_iff_not]
    rcases this with hl | ⟨he, hle⟩
    · exact ⟨not_lt.mpr hl.le, Or.inl hl.ne⟩
    · exact ⟨not_lt.mpr he.le, Or.inr (not_lt.mpr hle)⟩

end Cert.Splat
-- ==== Proof.Spec.lean ====
module

public import Idealize.ShloMosaic.Lib.SortPrefix
public import Idealize.ShloMosaic.PureOps.Ideal.Laws

/-!
# What both programs compute

The image at a point, as plain mathematics over the extended reals. Every splat has a centre, an angle, two scales, a
colour and two rows of 1024 cosine coefficients, one per axis. A wave adds up the sixteen cosines whose coefficients have
the greatest magnitudes, earlier frequencies first among equal magnitudes. The weight of a splat at a point is its
Gaussian times its two waves, and the image is the sum of the colours with these weights.
-/

@[expose] public section

noncomputable section

namespace Cert.Splat

open Idealize.ShloMosaic

/-- The magnitude of an extended real. -/
def mag (x : EReal) : EReal := max x (-x)

/-- The frequency that comes at place `r` when the coefficients are sorted by magnitude, greatest first, stably. -/
def top (w : Fin 1024 → EReal) (r : Fin 16) : Fin 1024 :=
  sortedFrom (fun k k' : Fin 1024 => decide (mag (w k') < mag (w k))) ⟨r.val, by omega⟩

/-- The constant 2π as the programs round it. -/
def turn : EReal := Ideal.ofBits .f32 0x40C90FDB#32

/-- The constant -1/2. -/
def minusHalf : EReal := Ideal.ofBits .f32 0xBF000000#32

/-- A wave at a local coordinate: the sixteen strongest cosines. -/
def waveAt (t : EReal) (w : Fin 1024 → EReal) : EReal :=
  ∑ r : Fin 16, w (top w r) * Ideal.cos (turn * (((top w r).val : ℝ) : EReal) * t)

/-- The first coordinate of a point in a splat's frame. -/
def localX (px py qx qy o : EReal) : EReal := Ideal.cos o * (px - qx) + Ideal.sin o * (py - qy)

/-- The second coordinate of a point in a splat's frame. -/
def localY (px py qx qy o : EReal) : EReal := -Ideal.sin o * (px - qx) + Ideal.cos o * (py - qy)

/-- The Gaussian of the scaled local coordinates. -/
def gauss (tx ty sx sy : EReal) : EReal := Ideal.exp (minusHalf * (tx * sx * (tx * sx) + ty * sy * (ty * sy)))

/-- The weight of one splat at one point. -/
def weight (px py qx qy o sx sy : EReal) (wx wy : Fin 1024 → EReal) : EReal :=
  gauss (localX px py qx qy o) (localY px py qx qy o) sx sy * waveAt (localX px py qx qy o) wx * waveAt (localY px py qx qy o) wy

/-- What splat `g` gives to colour `k` of point `n`: its weight there times its colour. -/
def share (pts : Fin 512 → Fin 2 → EReal) (col : Fin 10000 → Fin 3 → EReal) (pos scale : Fin 10000 → Fin 2 → EReal)
    (rot : Fin 10000 → EReal) (wav : Fin 10000 → Fin 2 → Fin 1024 → EReal) (n : Fin 512) (k : Fin 3) (g : Fin 10000) : EReal :=
  weight (pts n 0) (pts n 1) (pos g 0) (pos g 1) (rot g) (scale g 0) (scale g 1) (wav g 0) (wav g 1) * col g k

/-- A function of a splat continued by zero to every number. -/
def padded (f : Fin 10000 → EReal) (i : ℕ) : EReal := if h : i < 10000 then f ⟨i, h⟩ else 0

/-- Blocks of 400 added one after the other make one sum. -/
theorem sum_blocks (f : ℕ → EReal) (q : ℕ) :
    ∑ s ∈ Finset.range q, ∑ g : Fin 400, f (400 * s + g.val) = ∑ i ∈ Finset.range (400 * q), f i := by
  induction q with
  | zero => rfl
  | succ q ih => rw [Finset.sum_range_succ, ih, Nat.mul_succ, Finset.sum_range_add, Finset.sum_range (n := 400)]

/-- The 25 blocks make the sum over all splats. -/
theorem sum_all (f : Fin 10000 → EReal) :
    ∑ s ∈ Finset.range 25, ∑ g : Fin 400, padded f (400 * s + g.val) = ∑ g : Fin 10000, f g := by
  rw [sum_blocks, Finset.sum_range (n := 10000)]
  exact Finset.sum_congr rfl fun g _ => dif_pos g.isLt

end Cert.Splat
-- ==== Proof.Lanes.lean ====
module

public import proofs.«01_k».proof.Proof.Block
public import proofs.«01_k».proof.Proof.Selection
public import proofs.«01_k».proof.Proof.Spec
public import Idealize.ShloMosaic.Lib.ValueLayout
public import Idealize.ShloMosaic.Lib.ValueLayoutCasts
public import Idealize.ShloMosaic.Lib.ValueIdx
public import Idealize.ShloMosaic.Lib.IdealHost
public import Idealize.ShloMosaic.Lib.WordCmp

/-!
# The rounds, read lane by lane

Over the extended reals, one round of the block on one row: the lane it picks is the first lane that holds the row's
greatest entry, the coefficient it reads is the row's entry there, the frequency is that lane's number, and what it
leaves is the row with that lane overwritten by -1. So the rounds of a row are the rounds of `Selection`, and the lanes
they pick are the ones a stable descending sort of the magnitudes puts first.
-/

@[expose] public section

set_option maxRecDepth 16384

noncomputable section

namespace Cert.Splat

open Cert.KernelIdeal Cert.KernelIdeal.Gen
open Idealize.ShloMosaic Idealize.ShloMosaic.TcCoe Idealize.ShloMosaic.ValueIdx

/-! ## The pick of a row -/

/-- Every row has a first greatest entry. -/
theorem exists_firstMax {α : Type} [LinearOrder α] {n : ℕ} (a : Fin (n + 1) → α) : ∃ p, FirstMax a p := by
  classical
  obtain ⟨q, hq⟩ := Finite.exists_max a
  have hne : (Finset.univ.filter fun i => a i = a q).Nonempty := ⟨q, by simp⟩
  have hm := Finset.min'_mem _ hne
  rw [Finset.mem_filter] at hm
  refine ⟨(Finset.univ.filter fun i => a i = a q).min' hne, fun j => by rw [hm.2]; exact hq j, fun j hj => ?_⟩
  rw [hm.2]
  refine lt_of_le_of_ne (hq j) fun e => ?_
  exact absurd (Finset.min'_le _ j (Finset.mem_filter.mpr ⟨Finset.mem_univ j, e⟩)) (not_le.mpr hj)

/-- The first lane that holds the greatest entry. -/
def pick (a : Fin 1024 → EReal) : Fin 1024 := Classical.choose (exists_firstMax a)

theorem pick_spec (a : Fin 1024 → EReal) : FirstMax a (pick a) := Classical.choose_spec (exists_firstMax a)

/-! ## Small facts on words -/

theorem toInt_lane (l : ℕ) (hl : l ≤ 1024) : (BitVec.ofNat 32 l).toInt = l := by
  rw [BitVec.toInt_ofNat']
  rw [Int.bmod_eq_of_le] <;> omega

theorem toInt_minsi (x y : BitVec 32) : (IntOp.minsi x y).toInt = min x.toInt y.toInt := by
  unfold IntOp.minsi
  by_cases h : x.slt y = true
  · rw [if_pos h]; rw [BitVec.slt_iff_toInt_lt] at h; omega
  · rw [if_neg h]; rw [BitVec.slt_iff_toInt_lt] at h; omega

/-- The least of finitely many words, when one of them is least. -/
theorem fold_minsi_eq {n : ℕ} (f : Fin n → BitVec 32) (p : Fin n) (init : BitVec 32) (hi : (f p).toInt ≤ init.toInt)
    (h : ∀ l, (f p).toInt ≤ (f l).toInt) : (Finset.univ : Finset (Fin n)).fold IKind.minsi.op init f = f p := by
  have key : ∀ c : BitVec 32, c.toInt ≤ ((Finset.univ : Finset (Fin n)).fold IKind.minsi.op init f).toInt
      ↔ c.toInt ≤ init.toInt ∧ ∀ l ∈ (Finset.univ : Finset (Fin n)), c.toInt ≤ (f l).toInt := fun c =>
    Finset.fold_op_rel_iff_and (r := fun x y : BitVec 32 => x.toInt ≤ y.toInt)
      (fun {x y z} => by show _ ≤ (IntOp.minsi y z).toInt ↔ _; rw [toInt_minsi]; exact le_min_iff)
  refine BitVec.eq_of_toInt_eq (le_antisymm ?_ ?_)
  · exact ((key _).mp (le_refl _)).2 p (Finset.mem_univ p)
  · exact (key _).mpr ⟨hi, fun l _ => h l⟩

/-- The greatest of finitely many extended reals, folded from -∞, when one of them is greatest. -/
theorem fold_max_eq {n : ℕ} (f : Fin n → EReal) (p : Fin n) (h : ∀ l, f l ≤ f p) :
    (Finset.univ : Finset (Fin n)).fold max ⊥ f = f p := by
  refine le_antisymm ?_ ?_
  · exact (Finset.fold_max_le (f p)).mpr ⟨bot_le, fun l _ => h l⟩
  · exact (Finset.le_fold_max (f p)).mpr (.inr ⟨p, Finset.mem_univ p, le_refl _⟩)

theorem ofBits_bot : (FloatOps.ofBits .f32 0xFF800000#32 : Ideal .f32) = (⊥ : EReal) := by
  show Ideal.ofBits .f32 0xFF800000#32 = ⊥
  simp [Ideal.ofBits, Ideal.ieee]

/-! ## Columns spread over a row -/

theorem spread_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lift_lane (g : Fin 400) (l : Fin 1024) : reduces_S400x1024_S400.lift (ix1 g) l = ix2 g l := by
  funext d
  match d with
  | ⟨0, _⟩ => rfl
  | ⟨1, _⟩ => rfl

/-! ## One round -/

/-- A row of the block. -/
def row (a : FVec Ideal S400x1024 .f32) (g : Fin 400) : Fin 1024 → EReal := fun l => a (ix2 g l)

theorem lanes_apply (g : Fin 400) (l : Fin 1024) : lanes (ix2 g l) = BitVec.ofNat 32 l.val :=
  iota_single_apply .tc S400x1024 32 1 iota_S400x1024_d1_w32 (ix2 g l)

theorem row_apply (a : FVec Ideal S400x1024 .f32) (g : Fin 400) (l : Fin 1024) : row a g l = a (ix2 g l) := rfl

variable (v a : FVec Ideal S400x1024 .f32) (g : Fin 400)

theorem rowMax_apply :
    (shapeCast S400x1 (multiReduction .maximumf [1] S400 a 0xFF800000#32 reduces_S400x1024_S400 (.inl rfl) rfl)
      shapeCasts_S400_S400x1) (ix2 g (0 : Fin 1)) = row a g (pick (row a g)) := by
  rw [shapeCast_a_a1_apply]
  refine (Ideal.multiReduction_maximumf_single a _ _ _ _ (ix1 g)).trans ?_
  rw [ofBits_bot]
  have hl : ∀ l : Fin 1024, a (reduces_S400x1024_S400.lift (ix1 g) l) = row a g l := fun l => congrArg a (lift_lane g l)
  refine (fold_max_eq (fun l : Fin 1024 => a (reduces_S400x1024_S400.lift (ix1 g) l)) (pick (row a g)) fun l => ?_).trans (hl _)
  exact (hl l).le.trans (((pick_spec (row a g)).le l).trans (hl _).ge)

theorem place_apply (u : Fin 1) : place a (ix2 g u) = BitVec.ofNat 32 (pick (row a g)).val := by
  have hw : ∀ l : Fin 1024,
      select
          (cmpf .oeq a
            (broadcastTo S400x1024
              (shapeCast S400x1 (multiReduction .maximumf [1] S400 a 0xFF800000#32 reduces_S400x1024_S400 (.inl rfl) rfl)
                shapeCasts_S400_S400x1)
              broadcasts_S400x1_S400x1024))
          lanes (broadcast S400x1024 1024#32) (reduces_S400x1024_S400.lift (ix1 g) l)
        = if row a g l = row a g (pick (row a g)) then BitVec.ofNat 32 l.val else 1024#32 := fun l => by
    rw [lift_lane, select_apply, cmpf_apply, spread_apply, rowMax_apply, lanes_apply, broadcast_apply]
    show Scalar.select (BitVec.ofBool (decide (row a g l = row a g (pick (row a g))))) _ _ = _
    rw [WordCmp.select_ofBool]
    by_cases h : row a g l = row a g (pick (row a g))
    · rw [if_pos h, if_pos (decide_eq_true h)]
    · rw [if_neg h, if_neg (by rw [decide_eq_true_eq]; exact h)]
  unfold place
  rw [shapeCast_a_a1_apply]
  refine (multiReductionI_eq_fold .minsi _ _ _ _ (ix1 g)).trans ((reduces_S400x1024_S400.fold_filter_drop_single _ _ _ (ix1 g)).trans ?_)
  rw [show (select
          (cmpf .oeq a
            (broadcastTo S400x1024
              (shapeCast S400x1 (multiReduction .maximumf [1] S400 a 0xFF800000#32 reduces_S400x1024_S400 (.inl rfl) rfl)
                shapeCasts_S400_S400x1)
              broadcasts_S400x1_S400x1024))
          lanes (broadcast S400x1024 1024#32)) ∘ reduces_S400x1024_S400.lift (ix1 g)
        = fun l : Fin 1024 => if row a g l = row a g (pick (row a g)) then BitVec.ofNat 32 l.val else 1024#32 from funext hw]
  have hp : (fun l : Fin 1024 => if row a g l = row a g (pick (row a g)) then BitVec.ofNat 32 l.val else 1024#32) (pick (row a g))
      = BitVec.ofNat 32 (pick (row a g)).val := if_pos rfl
  have hlt := (pick (row a g)).isLt
  refine (fold_minsi_eq _ (pick (row a g)) _ ?_ fun l => ?_).trans hp
  · refine (congrArg BitVec.toInt hp).le.trans ?_
    rw [toInt_lane _ (by omega)]
    show _ ≤ (2147483647 : ℤ)
    omega
  · refine (congrArg BitVec.toInt hp).le.trans ?_
    rw [toInt_lane _ (by omega)]
    show _ ≤ (if row a g l = row a g (pick (row a g)) then BitVec.ofNat 32 l.val else 1024#32).toInt
    have hl := l.isLt
    split
    · rename_i h
      rw [toInt_lane _ (by omega)]
      have : pick (row a g) ≤ l := le_of_not_gt fun hlp => absurd ((pick_spec (row a g)).first l hlp) (by rw [h]; exact lt_irrefl _)
      have : (pick (row a g)).val ≤ l.val := this
      omega
    · show _ ≤ (BitVec.ofNat 32 1024).toInt
      rw [toInt_lane _ (by omega)]
      omega

theorem hit_apply (l : Fin 1024) : hit a (ix2 g l) = BitVec.ofBool (decide (l = pick (row a g))) := by
  unfold hit
  show IntOp.cmpi .eq (lanes (ix2 g l)) (broadcastTo S400x1024 (place a) broadcasts_S400x1_S400x1024 (ix2 g l)) = _
  rw [spread_apply, place_apply, lanes_apply]
  show BitVec.ofBool (BitVec.ofNat 32 l.val == BitVec.ofNat 32 (pick (row a g)).val) = _
  congr 1
  rw [Bool.eq_iff_iff, beq_iff_eq, decide_eq_true_eq]
  have hl := l.isLt
  have hp := (pick (row a g)).isLt
  constructor
  · intro h
    have := congrArg BitVec.toInt h
    rw [toInt_lane _ (by omega), toInt_lane _ (by omega)] at this
    exact Fin.ext (by omega)
  · intro h; rw [h]

theorem coef_apply (u : Fin 1) : coef v a (ix2 g u) = v (ix2 g (pick (row a g))) := by
  unfold coef
  rw [shapeCast_a_a1_apply]
  refine (Ideal.multiReduction_add_single _ _ _ _ _ (ix1 g)).trans ?_
  have hl : ∀ l : Fin 1024, select (hit a) v (broadcast S400x1024 (Scalar.ofBits .f32 0x00000000#32 : Ideal .f32))
      (reduces_S400x1024_S400.lift (ix1 g) l) = if l = pick (row a g) then v (ix2 g l) else (0 : EReal) := fun l => by
    rw [lift_lane, select_apply, hit_apply, WordCmp.select_ofBool, broadcast_apply]
    by_cases h : l = pick (row a g)
    · rw [if_pos h, if_pos (decide_eq_true h)]
    · rw [if_neg h, if_neg (by rw [decide_eq_true_eq]; exact h)]
      exact Ideal.ofBits_zero_f32
  refine (Finset.sum_congr rfl fun (l : Fin 1024) _ => hl l).trans ?_
  exact (Finset.sum_ite_eq' Finset.univ (pick (row a g)) fun l : Fin 1024 => v (ix2 g l)).trans (if_pos (Finset.mem_univ _))

theorem freq_apply (u : Fin 1) : freq a (ix2 g u) = (((pick (row a g)).val : ℝ) : EReal) := by
  unfold freq
  rw [mulf_apply, sitofp_apply, place_apply, broadcast_apply]
  have h1 : (Scalar.ofBits .f32 0x3F800000#32 : Ideal .f32) = (1 : EReal) := Ideal.ofBits_one_f32
  rw [h1]
  show (((BitVec.ofNat 32 (pick (row a g)).val).toInt : ℝ) : EReal) * 1 = _
  rw [toInt_lane _ (by have := (pick (row a g)).isLt; omega), mul_one]
  norm_cast

/-- What a struck lane holds. -/
def floor : EReal := Ideal.ofBits .f32 0xBF800000#32

theorem floor_neg : floor < 0 := by
  have : floor = -1 := by
    unfold floor
    simp [Ideal.ofBits, Ideal.ieee, -EReal.coe_mul]
    norm_num
  rw [this]
  norm_num

theorem strike_apply (l : Fin 1024) : strike a (ix2 g l) = if l = pick (row a g) then floor else row a g l := by
  unfold strike
  rw [select_apply, hit_apply, WordCmp.select_ofBool, broadcast_apply]
  by_cases h : l = pick (row a g)
  · rw [if_pos h, if_pos (decide_eq_true h)]; rfl
  · rw [if_neg h, if_neg (by rw [decide_eq_true_eq]; exact h)]; rfl

/-! ## All the rounds of a row -/

theorem floor_lt_mag (x : EReal) : floor < mag x := by
  refine lt_of_lt_of_le floor_neg ?_
  rcases le_total 0 x with h | h
  · exact le_max_of_le_left h
  · exact le_max_of_le_right (EReal.neg_nonneg.mpr h)

/-- The lane that round `r` picks in a row of coefficients. -/
def chosen (r : ℕ) : Fin 1024 := pick (row (rounds v r) g)

/-- The rounds of a row are rounds of picking the first greatest magnitude and striking it out. -/
theorem rounds_row : Rounds (fun l => mag (v (ix2 g l))) floor (fun r => row (rounds v r) g) (chosen v g) where
  zero i := by
    show absf v (ix2 g i) = mag (v (ix2 g i))
    rfl
  pick r := pick_spec (row (rounds v r) g)
  next r i := by
    show row (strike (rounds v r)) g i = if i = pick (row (rounds v r) g) then floor else row (rounds v r) g i
    rw [row_apply, strike_apply]

/-- So the lanes picked are the first ones of the stable descending sort of the magnitudes. -/
theorem top_eq_chosen (r : Fin 16) : top (row v g) r = chosen v g r.val :=
  (rounds_row v g).sortedFrom_eq (fun _ => floor_lt_mag _) (k := 16) (by omega) r

end Cert.Splat
-- ==== Proof.Weight.lean ====
module

public import proofs.«01_k».proof.Proof.Lanes

/-!
# The block's weights and output rows, read entry by entry

Over the extended reals, an entry of the block's waves, Gaussians and weights is the plain formula of `Spec`, and a row
of the output after the block is what it held plus the weighted sum of the block's colours.
-/

@[expose] public section

set_option maxRecDepth 16384

noncomputable section

namespace Cert.Splat

open Cert.KernelIdeal Cert.KernelIdeal.Gen
open Idealize.ShloMosaic Idealize.ShloMosaic.TcCoe Idealize.ShloMosaic.ValueIdx

theorem cos_apply' {s : Shape} (x : FVec Ideal s .f32) (i : s.Idx) : cos x i = Ideal.cos (x i) := rfl
theorem sin_apply' {s : Shape} (x : FVec Ideal s .f32) (i : s.Idx) : sin x i = Ideal.sin (x i) := rfl
theorem exp_apply' {s : Shape} (x : FVec Ideal s .f32) (i : s.Idx) : exp x i = Ideal.exp (x i) := rfl
theorem word_eq (w : BitVec 32) : (Scalar.ofBits .f32 w : Ideal .f32) = Ideal.ofBits .f32 w := rfl

variable (t tx ty : FVec Ideal S400x512 .f32) (v vx vy : FVec Ideal S400x1024 .f32) (g : Fin 400) (n : Fin 512)
variable (r0 r1 : FVec Ideal S1x512 .f32) (p p0 p1 o s0 s1 : FVec Ideal S400x1 .f32)

theorem waveTerm_apply (r : ℕ) :
    waveTerm t v (rounds v r) (ix2 g n)
      = row v g (chosen v g r) * Ideal.cos (turn * (((chosen v g r).val : ℝ) : EReal) * t (ix2 g n)) := by
  unfold waveTerm
  rw [mulf_apply, spread_apply, coef_apply, cos_apply', mulf_apply, spread_apply, mulf_apply, freq_apply, broadcast_apply]
  rfl

theorem wave_apply (k : ℕ) :
    wave t v k (ix2 g n)
      = ∑ r ∈ Finset.range k, row v g (chosen v g r) * Ideal.cos (turn * (((chosen v g r).val : ℝ) : EReal) * t (ix2 g n)) := by
  induction k with
  | zero => exact Ideal.ofBits_zero_f32
  | succ k ih =>
    rw [Finset.sum_range_succ, ← ih, ← waveTerm_apply]
    rfl

/-- An entry of a wave is the sum of the sixteen strongest cosines. -/
theorem wave_eq : wave t v 16 (ix2 g n) = waveAt (t (ix2 g n)) (row v g) := by
  rw [wave_apply, Finset.sum_range]
  exact Finset.sum_congr rfl fun r _ => by rw [top_eq_chosen]

theorem apart_apply : apart r0 p (ix2 g n) = r0 (ix2 (0 : Fin 1) n) - p (ix2 g (0 : Fin 1)) := by
  unfold apart
  rw [subf_apply, broadcastTo_1b_ab_apply, spread_apply, shapeCast_self]

theorem along_apply :
    along r0 r1 p0 p1 o (ix2 g n)
      = localX (r0 (ix2 (0 : Fin 1) n)) (r1 (ix2 (0 : Fin 1) n)) (p0 (ix2 g (0 : Fin 1))) (p1 (ix2 g (0 : Fin 1))) (o (ix2 g (0 : Fin 1))) := by
  unfold along
  rw [addf_apply, mulf_apply, mulf_apply, apart_apply, apart_apply, spread_apply, spread_apply]
  rfl

theorem across_apply :
    across r0 r1 p0 p1 o (ix2 g n)
      = localY (r0 (ix2 (0 : Fin 1) n)) (r1 (ix2 (0 : Fin 1) n)) (p0 (ix2 g (0 : Fin 1))) (p1 (ix2 g (0 : Fin 1))) (o (ix2 g (0 : Fin 1))) := by
  unfold across
  rw [addf_apply, mulf_apply, mulf_apply, apart_apply, apart_apply, spread_apply, spread_apply, subf_apply, broadcast_apply, word_eq,
    Ideal.ofBits_zero_f32, zero_sub]
  rfl

theorem envelope_apply :
    envelope tx ty s0 s1 (ix2 g n) = gauss (tx (ix2 g n)) (ty (ix2 g n)) (s0 (ix2 g (0 : Fin 1))) (s1 (ix2 g (0 : Fin 1))) := by
  unfold envelope
  rw [exp_apply', mulf_apply, addf_apply, mulf_apply, mulf_apply, mulf_apply, mulf_apply, spread_apply, spread_apply]
  rfl

/-- An entry of the block's weights is the plain formula. -/
theorem weights_apply :
    weights r0 r1 p0 p1 o s0 s1 vx vy (ix2 g n)
      = weight (r0 (ix2 (0 : Fin 1) n)) (r1 (ix2 (0 : Fin 1) n)) (p0 (ix2 g (0 : Fin 1))) (p1 (ix2 g (0 : Fin 1))) (o (ix2 g (0 : Fin 1)))
          (s0 (ix2 g (0 : Fin 1))) (s1 (ix2 g (0 : Fin 1))) (row vx g) (row vy g) := by
  unfold weights weight
  rw [mulf_apply, mulf_apply, envelope_apply, wave_eq, wave_eq, along_apply, across_apply]

theorem lift_splat (n : Fin 512) (g : Fin 400) : reduces_S400x512_S512.lift (ix1 n) g = ix2 g n := by
  funext d
  match d with
  | ⟨0, _⟩ => rfl
  | ⟨1, _⟩ => rfl

/-- An entry of an output row after the block. -/
theorem addRow_apply (w : FVec Ideal S400x512 .f32) (old : FVec Ideal S1x512 .f32) (colour : FVec Ideal S400x1 .f32) (u : Fin 1) :
    addRow w old colour (ix2 u n) = old (ix2 u n) + ∑ g : Fin 400, w (ix2 g n) * colour (ix2 g (0 : Fin 1)) := by
  unfold addRow
  rw [addf_apply, shapeCast_a_1a_apply, shapeCast_self]
  congr 1
  refine (Ideal.multiReduction_add_single _ _ _ _ _ (ix1 n)).trans ?_
  have hl : ∀ g : Fin 400, mulf w (broadcastTo S400x512 colour broadcasts_S400x1_S400x512) (reduces_S400x512_S512.lift (ix1 n) g)
      = w (ix2 g n) * colour (ix2 g (0 : Fin 1)) := fun g => by
    rw [lift_splat, mulf_apply, spread_apply]
  exact Finset.sum_congr rfl fun (g : Fin 400) _ => hl g

end Cert.Splat
-- ==== Proof.Stores.lean ====
module

public import proofs.«01_k».proof.Proof.Weight
public import Idealize.ShloMosaic.Lib.Pipeline.ValueKit.Tiles
public import Idealize.ShloMosaic.Lib.Pipeline.RowLoads

/-!
# What one grid point leaves in the output block

The body stores the three output rows one after the other.  Each row is what the row held before the point plus the
weighted sum of one colour column over the point's 400 Gaussians; at the first point the rows held zero.
-/

@[expose] public section

set_option maxRecDepth 16384

noncomputable section

namespace Cert.Splat

open Cert.KernelIdeal Cert.KernelIdeal.Gen
open Idealize.ShloMosaic Idealize.ShloMosaic.TcCoe Idealize.ShloMosaic.ValueIdx

/-! ## Three rows stored in turn -/

/-- The output block's three rows. -/
abbrev out0 : Rect S3x512 := Rect.unit (s := S3x512) ![0, 0] S1x512.size inb_S3x512_S1x512_0_0
abbrev out1 : Rect S3x512 := Rect.unit (s := S3x512) ![1, 0] S1x512.size inb_S3x512_S1x512_1_0
abbrev out2 : Rect S3x512 := Rect.unit (s := S3x512) ![2, 0] S1x512.size inb_S3x512_S1x512_2_0

/-- The colour block's three columns. -/
abbrev red : Rect S400x3 := Rect.unit (s := S400x3) ![0, 0] S400x1.size inb_S400x3_S400x1_0_0
abbrev green : Rect S400x3 := Rect.unit (s := S400x3) ![0, 1] S400x1.size inb_S400x3_S400x1_0_1
abbrev blue : Rect S400x3 := Rect.unit (s := S400x3) ![0, 2] S400x1.size inb_S400x3_S400x1_0_2

variable (n : Fin 512)

theorem emb0 : out0.emb (ix2 (0 : Fin 1) n) = ix2 (0 : Fin 3) n :=
  funext fun a => Fin.ext ((Rect.idx_unit_val _ _ _ _ a).trans (by fin_cases a <;> simp))
theorem emb1 : out1.emb (ix2 (0 : Fin 1) n) = ix2 (1 : Fin 3) n :=
  funext fun a => Fin.ext ((Rect.idx_unit_val _ _ _ _ a).trans (by fin_cases a <;> simp))
theorem emb2 : out2.emb (ix2 (0 : Fin 1) n) = ix2 (2 : Fin 3) n :=
  funext fun a => Fin.ext ((Rect.idx_unit_val _ _ _ _ a).trans (by fin_cases a <;> simp))

theorem off02 : ix2 (0 : Fin 3) n ∉ out2.set := fun h => absurd (Rect.mem_set_unit.mp h 0).1 (by simp)
theorem off12 : ix2 (1 : Fin 3) n ∉ out2.set := fun h => absurd (Rect.mem_set_unit.mp h 0).1 (by simp)
theorem off01 : ix2 (0 : Fin 3) n ∉ out1.set := fun h => absurd (Rect.mem_set_unit.mp h 0).1 (by simp)
theorem off10 : ix2 (1 : Fin 3) n ∉ out0.set := fun h => absurd (Rect.mem_set_unit.mp h 0).2 (by simp)
theorem off20 : ix2 (2 : Fin 3) n ∉ out0.set := fun h => absurd (Rect.mem_set_unit.mp h 0).2 (by simp)
theorem off21 : ix2 (2 : Fin 3) n ∉ out1.set := fun h => absurd (Rect.mem_set_unit.mp h 0).2 (by simp)

variable {Val : EltTy → Type} [∀ e, Nonempty (Val e)]
variable (w0 w1 w2 : S1x512.Idx → Val .f32) (L : List (View.Piece Val S3x512 .f32))

theorem stored2 : View.canon ((⟨out2, w2⟩ : View.Piece Val S3x512 .f32) :: L) (ix2 (2 : Fin 3) n) = w2 (ix2 (0 : Fin 1) n) :=
  (congrArg (View.canon ((⟨out2, w2⟩ : View.Piece Val S3x512 .f32) :: L)) (emb2 n).symm).trans (View.canon_cons_emb out2 w2 L _)

theorem stored1 : View.canon ((⟨out1, w1⟩ : View.Piece Val S3x512 .f32) :: L) (ix2 (1 : Fin 3) n) = w1 (ix2 (0 : Fin 1) n) :=
  (congrArg (View.canon ((⟨out1, w1⟩ : View.Piece Val S3x512 .f32) :: L)) (emb1 n).symm).trans (View.canon_cons_emb out1 w1 L _)

theorem stored0 : View.canon ((⟨out0, w0⟩ : View.Piece Val S3x512 .f32) :: L) (ix2 (0 : Fin 3) n) = w0 (ix2 (0 : Fin 1) n) :=
  (congrArg (View.canon ((⟨out0, w0⟩ : View.Piece Val S3x512 .f32) :: L)) (emb0 n).symm).trans (View.canon_cons_emb out0 w0 L _)

theorem past2 {y : S3x512.Idx} (h : y ∉ out2.set) : View.canon ((⟨out2, w2⟩ : View.Piece Val S3x512 .f32) :: L) y = View.canon L y :=
  View.canon_cons_of_not_mem _ _ h

theorem past1 {y : S3x512.Idx} (h : y ∉ out1.set) : View.canon ((⟨out1, w1⟩ : View.Piece Val S3x512 .f32) :: L) y = View.canon L y :=
  View.canon_cons_of_not_mem _ _ h

theorem past0 {y : S3x512.Idx} (h : y ∉ out0.set) : View.canon ((⟨out0, w0⟩ : View.Piece Val S3x512 .f32) :: L) y = View.canon L y :=
  View.canon_cons_of_not_mem _ _ h

/-- Three rows `f 0`, `f 1`, `f 2` stored in turn, read back. -/
theorem stored (f : Fin 3 → S1x512.Idx → Val .f32) (k : Fin 3) :
    View.canon ((⟨out2, f 2⟩ : View.Piece Val S3x512 .f32) :: ⟨out1, f 1⟩ :: ⟨out0, f 0⟩ :: L) (ix2 k n) = f k (ix2 (0 : Fin 1) n) := by
  fin_cases k
  · exact ((past2 _ _ (off02 n)).trans (past1 _ _ (off01 n))).trans (stored0 n _ _)
  · exact (past2 _ _ (off12 n)).trans (stored1 n _ _)
  · exact stored2 n _ _

/-! ## One point's rows -/

/-- One output row `k`. -/
abbrev outRow {F : FTy → Type} (x : Vec F S3x512 .f32) : Fin 3 → FVec F S1x512 .f32 := ![View.ld x out0, View.ld x out1, View.ld x out2]

/-- One colour column `k`. -/
abbrev colour {F : FTy → Type} (x : Vec F S400x3 .f32) : Fin 3 → FVec F S400x1 .f32 := ![View.ld x red, View.ld x green, View.ld x blue]

theorem outRow_apply {F : FTy → Type} (x : Vec F S3x512 .f32) (k : Fin 3) : outRow x k (ix2 (0 : Fin 1) n) = x (ix2 k n) := by
  fin_cases k
  · exact View.ld_unit_apply_of x _ _ _ _ _ fun a => by fin_cases a <;> simp
  · exact View.ld_unit_apply_of x _ _ _ _ _ fun a => by fin_cases a <;> simp
  · exact View.ld_unit_apply_of x _ _ _ _ _ fun a => by fin_cases a <;> simp

theorem colour_apply {F : FTy → Type} (x : Vec F S400x3 .f32) (g : Fin 400) (k : Fin 3) : colour x k (ix2 g (0 : Fin 1)) = x (ix2 g k) := by
  fin_cases k
  · exact View.ld_unit_apply_of x _ _ _ _ _ fun a => by fin_cases a <;> simp
  · exact View.ld_unit_apply_of x _ _ _ _ _ fun a => by fin_cases a <;> simp
  · exact View.ld_unit_apply_of x _ _ _ _ _ fun a => by fin_cases a <;> simp

/-- The weights of a point's blocks. -/
abbrev blockWeights {F : FTy → Type} [FloatOps F] (x0 : Vec F S2x512 .f32) (x2 x3 : Vec F S400x2 .f32) (x4 : Vec F S400x1 .f32)
    (x5 x6 : Vec F S400x1024 .f32) : FVec F S400x512 .f32 :=
  weights (row0 x0) (row1 x0) (col0 x2) (col1 x2) (View.ld x4 rRot) (col0 x3) (col1 x3)
    (shapeCast S400x1024 (View.ld x5 rCoef) shapeCasts_S400x1024_S400x1024)
    (shapeCast S400x1024 (View.ld x6 rCoef) shapeCasts_S400x1024_S400x1024)

section
variable {F : FTy → Type} [FloatOps F]
variable (c : Dev nD) (i : grid0.Coords) (arg1 : Memref sig .tc .vmem S2x512 .f32) (harg1 : arg1.IsWhole)
    (arg2 : Memref sig .tc .vmem S400x3 .f32) (harg2 : arg2.IsWhole)
    (arg3 : Memref sig .tc .vmem S400x2 .f32) (harg3 : arg3.IsWhole) (arg4 : Memref sig .tc .vmem S400x2 .f32) (harg4 : arg4.IsWhole)
    (arg5 : Memref sig .tc .vmem S400x1 .f32) (harg5 : arg5.IsWhole) (arg6 : Memref sig .tc .vmem S400x1024 .f32) (harg6 : arg6.IsWhole)
    (arg7 : Memref sig .tc .vmem S400x1024 .f32) (harg7 : arg7.IsWhole) (arg8 : Memref sig .tc .vmem S3x512 .f32) (harg8 : arg8.IsWhole)
    (x0 : Vec F S2x512 .f32) (x1 : Vec F S400x3 .f32) (x2 x3 : Vec F S400x2 .f32) (x4 : Vec F S400x1 .f32) (x5 x6 : Vec F S400x1024 .f32)
    (xo7 : Vec F S3x512 .f32)

theorem pieces_B (hc0 : ¬cond0_0 i) :
    (kernelRun0_B c i arg1 harg1 arg2 harg2 arg3 harg3 arg4 harg4 arg5 harg5 arg6 harg6 arg7 harg7 arg8 harg8 hc0 x0 x1 x2 x3 x4 x5 x6 xo7).1
      = [⟨out2, addRow (blockWeights x0 x2 x3 x4 x5 x6) (outRow xo7 2) (colour x1 2)⟩,
         ⟨out1, addRow (blockWeights x0 x2 x3 x4 x5 x6) (outRow xo7 1) (colour x1 1)⟩,
         ⟨out0, addRow (blockWeights x0 x2 x3 x4 x5 x6) (outRow xo7 0) (colour x1 0)⟩] := by
  dsimp only [kernelRun0_B]
  simp only [kernelRun0_B.sl.r_113, kernelRun0_B.sl.r_111, kernelRun0_B.sl.r_112, kernelRun0_B.sl.v922, kernelRun0_B.sl.v931,
    weights_B, View.readAt_eq_ld, Memref.IsWhole.read_unread]
  rfl

/-- What row `k` holds before the first point adds to it: zero. -/
abbrev blank : FVec F S3x512 .f32 := k0_pay1

/-- A row read right after the block was filled. -/
theorem filled (v : View sig .tc .vmem S3x512 .f32) (r : Rect S3x512) :
    v.readCov (Val := Elt F) kernelRun0_A.sl.H7_1 r.toLoadRect = View.ld blank r := by
  rw [View.readCov_eq_canon']
  unfold kernelRun0_A.sl.H7_1
  rw [View.canon_unit_zero (by funext a; fin_cases a <;> rfl)]

variable (v : View sig .tc .vmem S3x512 .f32)

theorem unread01 (w0 : S1x512.Idx → Elt F .f32) (L : List (View.Piece (Elt F) S3x512 .f32)) :
    v.readCov ((⟨out0, w0⟩ : View.Piece (Elt F) S3x512 .f32) :: L) out1.toLoadRect = v.readCov L out1.toLoadRect :=
  View.readCov_cons_of_disjoint v _ L _ (Rect.unit_disjoint (inb := inb_S3x512_S1x512_0_0) (inb' := inb_S3x512_S1x512_1_0) 0 (Or.inl (by decide)))

theorem unread02 (w0 : S1x512.Idx → Elt F .f32) (L : List (View.Piece (Elt F) S3x512 .f32)) :
    v.readCov ((⟨out0, w0⟩ : View.Piece (Elt F) S3x512 .f32) :: L) out2.toLoadRect = v.readCov L out2.toLoadRect :=
  View.readCov_cons_of_disjoint v _ L _ (Rect.unit_disjoint (inb := inb_S3x512_S1x512_0_0) (inb' := inb_S3x512_S1x512_2_0) 0 (Or.inl (by decide)))

theorem unread12 (w1 : S1x512.Idx → Elt F .f32) (L : List (View.Piece (Elt F) S3x512 .f32)) :
    v.readCov ((⟨out1, w1⟩ : View.Piece (Elt F) S3x512 .f32) :: L) out2.toLoadRect = v.readCov L out2.toLoadRect :=
  View.readCov_cons_of_disjoint v _ L _ (Rect.unit_disjoint (inb := inb_S3x512_S1x512_1_0) (inb' := inb_S3x512_S1x512_2_0) 0 (Or.inl (by decide)))

theorem pieces_A (hc0 : cond0_0 i) :
    (kernelRun0_A c i arg1 harg1 arg2 harg2 arg3 harg3 arg4 harg4 arg5 harg5 arg6 harg6 arg7 harg7 arg8 harg8 hc0 x0 x1 x2 x3 x4 x5 x6).1
      = ⟨out2, addRow (blockWeights x0 x2 x3 x4 x5 x6) (outRow blank 2) (colour x1 2)⟩
        :: ⟨out1, addRow (blockWeights x0 x2 x3 x4 x5 x6) (outRow blank 1) (colour x1 1)⟩
        :: ⟨out0, addRow (blockWeights x0 x2 x3 x4 x5 x6) (outRow blank 0) (colour x1 0)⟩ :: kernelRun0_A.sl.H7_1 := by
  have e1 : kernelRun0_A.sl.v922 c arg1 harg1 arg2 harg2 arg3 harg3 arg4 harg4 arg5 harg5 arg6 harg6 arg7 harg7 arg8 x0 x1 x2 x3 x4 x5 x6
      = outRow blank 1 := (unread01 _ _ _).trans (filled _ _)
  have e2 : kernelRun0_A.sl.v931 c arg1 harg1 arg2 harg2 arg3 harg3 arg4 harg4 arg5 harg5 arg6 harg6 arg7 harg7 arg8 x0 x1 x2 x3 x4 x5 x6
      = outRow blank 2 := ((unread12 _ _ _).trans (unread02 _ _ _)).trans (filled _ _)
  have e0 : kernelRun0_A.sl.v913 c arg8 = outRow (F := F) blank 0 := filled _ _
  dsimp only [kernelRun0_A]
  simp only [kernelRun0_A.sl.r_113, kernelRun0_A.sl.r_111, kernelRun0_A.sl.r_112, e0, e1, e2, kernelRun0_A.sl.H7_2, kernelRun0_A.sl.H7_3,
    weights_A, View.readAt_eq_ld, Memref.IsWhole.read_unread]
  rfl
end

section
variable (c : Dev nD) (i : grid0.Coords) (arg1 : Memref sig .tc .vmem S2x512 .f32) (harg1 : arg1.IsWhole)
    (arg2 : Memref sig .tc .vmem S400x3 .f32) (harg2 : arg2.IsWhole)
    (arg3 : Memref sig .tc .vmem S400x2 .f32) (harg3 : arg3.IsWhole) (arg4 : Memref sig .tc .vmem S400x2 .f32) (harg4 : arg4.IsWhole)
    (arg5 : Memref sig .tc .vmem S400x1 .f32) (harg5 : arg5.IsWhole) (arg6 : Memref sig .tc .vmem S400x1024 .f32) (harg6 : arg6.IsWhole)
    (arg7 : Memref sig .tc .vmem S400x1024 .f32) (harg7 : arg7.IsWhole) (arg8 : Memref sig .tc .vmem S3x512 .f32) (harg8 : arg8.IsWhole)
    (x0 : Vec Ideal S2x512 .f32) (x1 : Vec Ideal S400x3 .f32) (x2 x3 : Vec Ideal S400x2 .f32) (x4 : Vec Ideal S400x1 .f32)
    (x5 x6 : Vec Ideal S400x1024 .f32) (xo7 : Vec Ideal S3x512 .f32) (g : Fin 400) (k : Fin 3)

/-- The weight of a block's Gaussian `g` at point `n`, from the block's entries. -/
theorem blockWeights_apply :
    blockWeights x0 x2 x3 x4 x5 x6 (ix2 g n)
      = weight (x0 (ix2 (0 : Fin 2) n)) (x0 (ix2 (1 : Fin 2) n)) (x2 (ix2 g (0 : Fin 2))) (x2 (ix2 g (1 : Fin 2))) (x4 (ix2 g (0 : Fin 1)))
          (x3 (ix2 g (0 : Fin 2))) (x3 (ix2 g (1 : Fin 2))) (fun l => x5 (ix2 g l)) (fun l => x6 (ix2 g l)) := by
  have h0 : row0 x0 (ix2 (0 : Fin 1) n) = x0 (ix2 (0 : Fin 2) n) := View.ld_unit_apply_of x0 _ _ _ _ _ fun a => by fin_cases a <;> simp
  have h1 : row1 x0 (ix2 (0 : Fin 1) n) = x0 (ix2 (1 : Fin 2) n) := View.ld_unit_apply_of x0 _ _ _ _ _ fun a => by fin_cases a <;> simp
  have e0 (x : Vec Ideal S400x2 .f32) : col0 x (ix2 g (0 : Fin 1)) = x (ix2 g (0 : Fin 2)) :=
    View.ld_unit_apply_of x _ _ _ _ _ fun a => by fin_cases a <;> simp
  have e1 (x : Vec Ideal S400x2 .f32) : col1 x (ix2 g (0 : Fin 1)) = x (ix2 g (1 : Fin 2)) :=
    View.ld_unit_apply_of x _ _ _ _ _ fun a => by fin_cases a <;> simp
  have h4 : View.ld x4 rRot (ix2 g (0 : Fin 1)) = x4 (ix2 g (0 : Fin 1)) := View.ld_unit_apply_of x4 _ _ _ _ _ fun a => by fin_cases a <;> simp
  have hw (x : Vec Ideal S400x1024 .f32) :
      row (shapeCast S400x1024 (View.ld x rCoef) shapeCasts_S400x1024_S400x1024 : FVec Ideal S400x1024 .f32) g = fun l => x (ix2 g l) := by
    have e : (shapeCast S400x1024 (View.ld x rCoef) shapeCasts_S400x1024_S400x1024 : FVec Ideal S400x1024 .f32) = View.ld x rCoef :=
      shapeCast_self _ _
    exact funext fun l => (congrFun e _).trans (View.ld_unit_apply_of x _ _ _ _ _ fun a => by fin_cases a <;> simp)
  refine (weights_apply ..).trans ?_
  rw [h0, h1, e0, e1, h4, e0, e1, hw, hw]

theorem addRow_of (w : FVec Ideal S400x512 .f32) :
    addRow w (outRow xo7 k) (colour x1 k) (ix2 (0 : Fin 1) n) = xo7 (ix2 k n) + ∑ g : Fin 400, w (ix2 g n) * x1 (ix2 g k) := by
  rw [addRow_apply, outRow_apply]
  exact congrArg _ (Finset.sum_congr rfl fun g _ => congrArg _ (colour_apply x1 g k))

/-- A later point adds its weighted colours to what the block held. -/
theorem point_B (hc0 : ¬cond0_0 i) :
    out0_B_7 c i arg1 harg1 arg2 harg2 arg3 harg3 arg4 harg4 arg5 harg5 arg6 harg6 arg7 harg7 arg8 harg8 hc0 x0 x1 x2 x3 x4 x5 x6 xo7 (ix2 k n)
      = xo7 (ix2 k n) + ∑ g : Fin 400, blockWeights x0 x2 x3 x4 x5 x6 (ix2 g n) * x1 (ix2 g k) := by
  unfold out0_B_7
  rw [View.read_writes_junk_apply_eq_canon, pieces_B]
  have h := stored (Val := Elt Ideal) n [] (fun k => addRow (blockWeights x0 x2 x3 x4 x5 x6) (outRow xo7 k) (colour x1 k)) k
  exact h.trans (addRow_of n x1 xo7 k (blockWeights x0 x2 x3 x4 x5 x6))

/-- The first point leaves its weighted colours alone. -/
theorem point_A (hc0 : cond0_0 i) :
    out0_A_7 c i arg1 harg1 arg2 harg2 arg3 harg3 arg4 harg4 arg5 harg5 arg6 harg6 arg7 harg7 arg8 harg8 hc0 x0 x1 x2 x3 x4 x5 x6 (ix2 k n)
      = ∑ g : Fin 400, blockWeights x0 x2 x3 x4 x5 x6 (ix2 g n) * x1 (ix2 g k) := by
  unfold out0_A_7
  rw [View.read_writes_junk_apply_eq_canon, pieces_A]
  have h := stored (Val := Elt Ideal) n kernelRun0_A.sl.H7_1 (fun k => addRow (blockWeights x0 x2 x3 x4 x5 x6) (outRow (blank (F := Ideal)) k) (colour x1 k)) k
  refine h.trans ((addRow_of n x1 (blank (F := Ideal)) k (blockWeights x0 x2 x3 x4 x5 x6)).trans ?_)
  exact (congrArg (· + _) Ideal.ofBits_zero_f32).trans (zero_add _)
end

end Cert.Splat
-- ==== Proof.Array.lean ====
module

public import proofs.«01_k».proof.Proof.Stores
public import Idealize.ShloMosaic.Lib.Claim
public import Idealize.ShloMosaic.Lib.Pipeline.ValueKit.Point

/-!
# What the output array holds

The output block stays in place over the 25 grid points and each point adds its 400 splats; it is written back after the
last one.  So the array holds the sum over all 10000 splats, and the last operation of the program transposes it.
-/

@[expose] public section

set_option maxRecDepth 16384

noncomputable section

namespace Cert.Splat

open Cert.KernelIdeal Cert.KernelIdeal.Gen
open Idealize.ShloMosaic hiding ix1 ix2 ix3 eq_ix2
open Idealize.SL.Sem
open Idealize.ShloMosaic.TcCoe Idealize.ShloMosaic.ValueIdx

variable (m : (ℓ : Loc nD τ sig) → Buf (Elt Ideal) ℓ) (c : Dev nD)

/-! ## The arguments -/

abbrev pts (n : Fin 512) (j : Fin 2) : EReal := (m ((c.tc : Thread nD τ).loc main_arg0) : Vec Ideal S512x2 .f32) (ix2 n j)
abbrev col (g : Fin 10000) (k : Fin 3) : EReal := (m ((c.tc : Thread nD τ).loc main_arg1) : Vec Ideal S10000x3 .f32) (ix2 g k)
abbrev pos (g : Fin 10000) (j : Fin 2) : EReal := (m ((c.tc : Thread nD τ).loc main_arg2) : Vec Ideal S10000x2 .f32) (ix2 g j)
abbrev scale (g : Fin 10000) (j : Fin 2) : EReal := (m ((c.tc : Thread nD τ).loc main_arg3) : Vec Ideal S10000x2 .f32) (ix2 g j)
abbrev rot (g : Fin 10000) : EReal := (m ((c.tc : Thread nD τ).loc main_arg4) : Vec Ideal S10000x1 .f32) (ix2 g (0 : Fin 1))
abbrev wav (g : Fin 10000) (j : Fin 2) (l : Fin 1024) : EReal :=
  (m ((c.tc : Thread nD τ).loc main_arg5) : Vec Ideal S10000x2x1024 .f32) (ix3 g j l)

/-- What splat `g` gives to colour `k` of point `n`, from the arguments. -/
abbrev part (n : Fin 512) (k : Fin 3) : Fin 10000 → EReal :=
  share (pts m c) (col m c) (pos m c) (scale m c) (rot m c) (wav m c) n k

/-! ## The blocks of the arguments -/

theorem lt_25 (t : Fin cfg0.N) : t.val < 25 := Nat.lt_of_lt_of_eq t.isLt N_0

/-- The splat at place `g` of block `t`. -/
abbrev at_ (t : Fin cfg0.N) (g : Fin 400) : Fin 10000 := ⟨400 * t.val + g.val, by have := lt_25 t; omega⟩

theorem index_all : ∀ t : Fin grid0.N, win0_0.index t = ![0, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![0, 0] := by
  decide +kernel

/-- The points as the region finds them: transposed. -/
theorem entry0 (j : Fin 2) (n : Fin 512) : (V m c main_v4 : Vec Ideal S2x512 .f32) (ix2 j n) = pts m c n j := by
  entry_read
  exact transpose_ix2_apply ..

theorem block0 (t : Fin cfg0.N) (j : Fin 2) (n : Fin 512) : iblk m c 0 t (ix2 j n) = pts m c n j := by
  rw [← entry0]
  blk_ext [iblk, index_all t]

theorem block1 (t : Fin cfg0.N) (g : Fin 400) (k : Fin 3) : iblk m c 1 t (ix2 g k) = col m c (at_ t g) k := by
  blk_ext [iblk, V, index_all t]
  show t.val * 400 + g.val = 400 * t.val + g.val
  omega

theorem block2 (t : Fin cfg0.N) (g : Fin 400) (j : Fin 2) : iblk m c 2 t (ix2 g j) = pos m c (at_ t g) j := by
  blk_ext [iblk, V, index_all t]
  show t.val * 400 + g.val = 400 * t.val + g.val
  omega

theorem block3 (t : Fin cfg0.N) (g : Fin 400) (j : Fin 2) : iblk m c 3 t (ix2 g j) = scale m c (at_ t g) j := by
  blk_ext [iblk, V, index_all t]
  show t.val * 400 + g.val = 400 * t.val + g.val
  omega

theorem block4 (t : Fin cfg0.N) (g : Fin 400) : iblk m c 4 t (ix2 g (0 : Fin 1)) = rot m c (at_ t g) := by
  blk_ext [iblk, V, index_all t]
  show t.val * 400 + g.val = 400 * t.val + g.val
  omega

/-- One of the two stacked coefficient arrays, cut out and reshaped, at an entry. -/
theorem unstack (q : Fin 2) (off : Fin 3 → ℕ) (hs : S10000x2x1024.Slices off S10000x1x1024)
    (h : S10000x1x1024.ShapeCasts S10000x1024) (ho : ∀ a, off a = (![0, q.val, 0] : Fin 3 → ℕ) a) (g : Fin 10000) (l : Fin 1024) :
    shapeCast S10000x1024 (extractStridedSlice S10000x1x1024 off (m ((c.tc : Thread nD τ).loc main_arg5) : Vec Ideal S10000x2x1024 .f32) hs) h
        (ix2 g l) = wav m c g q l := by
  refine (shapeCast_apply _ _ _ (ix3 g (0 : Fin 1) l) ?_).trans ?_
  · rw [Shape.rowMajor_val_three, Shape.rowMajor_val_two]
    show (g.val * 1 + 0) * 1024 + l.val = g.val * 1024 + l.val
    omega
  · refine congrArg (m ((c.tc : Thread nD τ).loc main_arg5) : Vec Ideal S10000x2x1024 .f32) (funext fun a => Fin.ext ?_)
    refine (congrArg (· + _) (ho a)).trans ?_
    fin_cases a
    · exact Nat.zero_add _
    · exact Nat.add_zero _
    · exact Nat.zero_add _

/-- The first waves' coefficients as the region finds them. -/
theorem entry5 (g : Fin 10000) (l : Fin 1024) : (V m c main_v1 : Vec Ideal S10000x1024 .f32) (ix2 g l) = wav m c g 0 l := by
  entry_read
  exact unstack m c 0 _ slices_S10000x2x1024_S10000x1x1024_0_0_0 shapeCasts_S10000x1x1024_S10000x1024 (fun a => by fin_cases a <;> rfl) g l

/-- The second waves' coefficients as the region finds them. -/
theorem entry6 (g : Fin 10000) (l : Fin 1024) : (V m c main_v3 : Vec Ideal S10000x1024 .f32) (ix2 g l) = wav m c g 1 l := by
  entry_read
  exact unstack m c 1 _ slices_S10000x2x1024_S10000x1x1024_0_1_0 shapeCasts_S10000x1x1024_S10000x1024 (fun a => by fin_cases a <;> rfl) g l

theorem block5 (t : Fin cfg0.N) (g : Fin 400) (l : Fin 1024) : iblk m c 5 t (ix2 g l) = wav m c (at_ t g) 0 l := by
  rw [← entry5]
  blk_ext [iblk, index_all t]
  show t.val * 400 + g.val = 400 * t.val + g.val
  omega

theorem block6 (t : Fin cfg0.N) (g : Fin 400) (l : Fin 1024) : iblk m c 6 t (ix2 g l) = wav m c (at_ t g) 1 l := by
  rw [← entry6]
  blk_ext [iblk, index_all t]
  show t.val * 400 + g.val = 400 * t.val + g.val
  omega

/-! ## The sum over the points -/

/-- What point `t` adds to an entry of the block. -/
theorem added (t : Fin cfg0.N) (n : Fin 512) (k : Fin 3) :
    ∑ g : Fin 400, blockWeights (F := Ideal) (iblk m c 0 t) (iblk m c 2 t) (iblk m c 3 t) (iblk m c 4 t) (iblk m c 5 t) (iblk m c 6 t) (ix2 g n)
        * (iblk m c 1 t : Vec Ideal S400x3 .f32) (ix2 g k)
      = ∑ g : Fin 400, padded (part m c n k) (400 * t.val + g.val) := by
  refine Finset.sum_congr rfl fun g _ => ?_
  have hp : padded (part m c n k) (400 * t.val + g.val) = part m c n k (at_ t g) := dif_pos (at_ t g).isLt
  rw [hp, block1, blockWeights_apply, block0, block0, block2, block2, block3, block3, block4]
  simp only [block5, block6]
  rfl

/-- After point `t` the block holds the sum of the blocks so far. -/
theorem sofar (n : Fin 512) (k : Fin 3) : ∀ (t : ℕ) (ht : t < cfg0.N),
    (outsAt0 m c t ht : Vec Ideal S3x512 .f32) (ix2 k n) = ∑ s ∈ Finset.range (t + 1), ∑ g : Fin 400, padded (part m c n k) (400 * s + g.val)
  | 0, ht => by
    have h := outsAt0_A m c ⟨0, ht⟩ rfl
    rw [Finset.sum_range_one]
    exact (congrFun h _).trans ((point_A ..).trans (added m c ⟨0, ht⟩ n k))
  | t + 1, ht => by
    have h25 := lt_25 ⟨t + 1, ht⟩
    have h := outsAt0_B m c ⟨t + 1, ht⟩ (by dsimp only at h25 ⊢; omega)
    rw [Finset.sum_range_succ, ← sofar n k t (by omega)]
    exact (congrFun h _).trans ((point_B ..).trans (congrArg _ (added m c ⟨t + 1, ht⟩ n k)))

/-- The written array. -/
abbrev total : Vec Ideal S3x512 .f32 := fun i => ∑ g : Fin 10000, part m c (i 1) (i 0) g

/-- The last grid point. -/
def last : Fin cfg0.N := ⟨24, by decide⟩

theorem array : (dats m 0 c).arrAt 7 (cfgs 0).N = total m c := by
  refine (dats m 0 c).arrAt_eq_of_after_last 7 last (by decide +kernel) _ fun j => ?_
  blk_simp
  obtain ⟨k, n, rfl⟩ : ∃ (k : Fin 3) (n : Fin 512), j = ix2 k n := ⟨j 0, j 1, eq_ix2 j⟩
  exact (congrFun (after0_7 m c last) _).trans ((sofar m c n k 24 _).trans (sum_all _))

/-- The result: at point `n` and colour `k`, the sum over all splats of weight times colour. -/
abbrev image : Vec Ideal S512x3 .f32 := fun i => ∑ g : Fin 10000, part m c (i 0) (i 1) g

theorem transposed : (transpose S512x3 [1, 0] (total m c) transposes_S3x512_S512x3_1_0 : Vec Ideal S512x3 .f32) = image m c := by
  funext i
  obtain ⟨n, k, rfl⟩ : ∃ (n : Fin 512) (k : Fin 3), i = ix2 n k := ⟨i 0, i 1, eq_ix2 i⟩
  exact transpose_ix2_apply ..

/-- The transpose after the region reads the written array. -/
theorem tail : Pipeline.afterTail₀ cfgs (dats m) 0 (V0 m) [hostOps1] c main_v6 = image m c := by
  have hv : Pipeline.withArrays (cfgs 0).spec c (V0 m c) (fun w => (dats m 0 c).arrAt w (cfgs 0).N) (Proc.devRef .tc main_v5) = total m c :=
    (Pipeline.withArrays_arr spec0 launch0.win.arr_inj c _ _ 7).trans (array m c)
  refine Eq.trans ?_ (transposed m c)
  rw [← hv]
  unfold Pipeline.afterTail₀
  rfl

/-- Every run of the kernel ends with the image in its result and its arguments unchanged. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v6) = image m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  run_from Cert.KernelIdeal.Gen.run_main m ρ
  · exact tail m c
  · exact W_main_arg0 m (dats m) c
  · exact W_main_arg5 m (dats m) c

end Cert.Splat
-- ==== Proof.Strongest.lean ====
module

public import proofs.«01_k».proof.Proof.Spec
public import proofs.«01_k».proof.Proof.Gen.ReferenceIdeal.Run
public import Idealize.ShloMosaic.Lib.WordCmp
public import Idealize.ShloMosaic.Lib.Claim
public import Idealize.ShloMosaic.Lib.Pipeline.ValueKit.Point

/-!
# How the reference picks the sixteen strongest frequencies

It sorts the magnitudes of the coefficients with their positions, keeps the first sixteen positions, reads the
coefficients there, and turns each position into a frequency. Positions are never negative nor past the row's end, so the
steps that guard against such positions leave everything as it is.
-/

@[expose] public section

set_option maxRecDepth 16384

noncomputable section

namespace Cert.Splat.Plain

open Cert.ReferenceIdeal Cert.ReferenceIdeal.Gen
open Idealize.ShloMosaic hiding ix1 ix2 ix3 ix4 eq_ix2 eq_ix4
open Idealize.ShloMosaic.TcCoe Idealize.ShloMosaic.ValueIdx

variable (w : FVec Ideal S10000x2x1024 .f32)

/-! ## The pieces of the reference's term -/

/-- The positions of the sixteen greatest magnitudes. -/
def places : IVec S10000x2x16 32 :=
  (Host.topK S10000x2x16 2 (FloatOps.cmpfTotal .gt) (Host.absf w) sliceFits_S10000x2x1024_S10000x2x16).2

/-- The positions with negative ones wrapped round, as start indices. -/
def wrapped : IVec S10000x2x16x1 32 :=
  shapeCast _ (select (cmpi .slt (places w) (broadcastInDim S10000x2x16 ![] bcast_S_S10000x2x16 (constantI S_ 32 0#32)))
    (addi (places w) (broadcastInDim S10000x2x16 ![] bcast_S_S10000x2x16 (constantI S_ 32 1024#32))) (places w))
    shapeCasts_S10000x2x16_S10000x2x16x1

/-- Which start indices lie in the row. -/
def inRow : IVec S10000x2x16x1 1 :=
  andi (cmpi .sge (wrapped w) (broadcastInDim S10000x2x16x1 ![] bcast_S_S10000x2x16x1 (constantI S_ 32 0#32)))
    (cmpi .sle (wrapped w) (broadcastInDim S10000x2x16x1 ![0, 1, 2, 3] bcast_S1x1x1x1_S10000x2x16x1_0_1_2_3
      (broadcastInDim S1x1x1x1 ![3] bcast_S1_S1x1x1x1_3 (constantI S1 32 1023#32))))

/-- The coefficients at the positions. -/
def kept : FVec Ideal S10000x2x16 .f32 :=
  select (Host.reduce IntOp.andi (inRow w) (constantI S_ 1 1#1) reducesTo_S10000x2x16x1_S10000x2x16_d3 h_S_)
    (Host.gather gather_S10000x2x1024_S10000x2x16x1_S10000x2x16_n_2_01_01_2_3_111 w (wrapped w))
    (broadcastInDim S10000x2x16 ![] bcast_S_S10000x2x16 (constant S_ .f32 0x7FC00000#32))

/-- The positions as frequencies. -/
def freqs : FVec Ideal S10000x2x16 .f32 :=
  Host.divf (mulf (broadcastInDim S10000x2x16 ![] bcast_S_S10000x2x16 (constant S_ .f32 0x44800000#32)) (sitofp .f32 (places w)))
    (broadcastInDim S10000x2x16 ![] bcast_S_S10000x2x16 (constant S_ .f32 0x44800000#32))

/-! ## What they hold -/

/-- The position at place `r` of a row. -/
abbrev topOf (g : Fin 10000) (j : Fin 2) (r : Fin 16) : Fin 1024 := top (fun l => w (ix3 g j l)) r

/-- "Greater" as a word is the order's comparison. -/
theorem gt_beq (a b : EReal) : ((FloatOps.cmpfTotal (F := Ideal) (φ := .f32) .gt a b == 1#1) : Bool) = decide (b < a) := by
  rw [Ideal.cmpfTotal_def]
  change (BitVec.ofBool (decide (b < a)) == 1#1) = _
  cases decide (b < a) <;> rfl

/-- Replacing the last coordinate. -/
theorem along_last {a b n : ℕ} (g : Fin a) (j : Fin b) (l k : Fin n) :
    Shape.Idx.along (s := ⟨3, ![a, b, n]⟩) (ix3 g j l) 2 k = ix3 g j k := by
  funext x
  match x with
  | ⟨0, _⟩ => rfl
  | ⟨1, _⟩ => rfl
  | ⟨2, _⟩ => rfl

/-- Positions sorted along the last axis by the keys there, read in a row. -/
theorem sorted_apply {a b n : ℕ} {α : Type} (gt : α → α → BitVec 1) (x : (⟨3, ![a, b, n]⟩ : Shape).Idx → α)
    (g : Fin a) (j : Fin b) (l : Fin n) (before : Fin n → Fin n → Bool)
    (h : ∀ k k', (gt (x (ix3 g j k)) (x (ix3 g j k')) == 1#1) = before k k') :
    (Host.sort2 ⟨3, ![a, b, n]⟩ 2 (fun p q : α × BitVec 32 => gt p.1 q.1) x (iotaInDim ⟨3, ![a, b, n]⟩ 32 2)).2 (ix3 g j l)
    = BitVec.ofNat 32 (sortedFrom before l).val := by
  have hf : (fun k k' : Fin n => (gt (x (Shape.Idx.along (s := ⟨3, ![a, b, n]⟩) (ix3 g j l) 2 k))
      (x (Shape.Idx.along (s := ⟨3, ![a, b, n]⟩) (ix3 g j l) 2 k')) == 1#1 : Bool)) = before := by
    funext k k'
    rw [along_last, along_last]
    exact h k k'
  have hd : (2 : ℕ) < (⟨3, ![a, b, n]⟩ : Shape).rank := (by decide : 2 < 3)
  unfold Host.sort2
  rw [dif_pos hd]
  change BitVec.ofNat 32 (Shape.Idx.along (s := ⟨3, ![a, b, n]⟩) (ix3 g j l) 2 (sortedFrom (fun k k' : Fin n =>
    (gt (x (Shape.Idx.along (s := ⟨3, ![a, b, n]⟩) (ix3 g j l) 2 k))
      (x (Shape.Idx.along (s := ⟨3, ![a, b, n]⟩) (ix3 g j l) 2 k')) == 1#1 : Bool)) l) 2).val = _
  rw [hf]
  rfl

/-- The first positions that the sort lists. -/
theorem topK_apply {a b n q : ℕ} {α : Type} (gt : α → α → BitVec 1) (x : (⟨3, ![a, b, n]⟩ : Shape).Idx → α)
    (hs : Shape.Slices ⟨3, ![a, b, n]⟩ (fun _ => 0) ⟨3, ![a, b, q]⟩) (g : Fin a) (j : Fin b) (r : Fin q) (hq : q ≤ n)
    (before : Fin n → Fin n → Bool) (h : ∀ k k', (gt (x (ix3 g j k)) (x (ix3 g j k')) == 1#1) = before k k') :
    (Host.topK ⟨3, ![a, b, q]⟩ 2 gt x hs).2 (ix3 g j r) = BitVec.ofNat 32 (sortedFrom before (r.castLE hq)).val := by
  refine Eq.trans ?_ (sorted_apply gt x g j (r.castLE hq) before h)
  refine congrArg (Host.sort2 ⟨3, ![a, b, n]⟩ 2 (fun p q : α × BitVec 32 => gt p.1 q.1) x (iotaInDim ⟨3, ![a, b, n]⟩ 32 2)).2 ?_
  funext y
  refine Fin.ext ?_
  match y with
  | ⟨0, _⟩ => exact Nat.zero_add _
  | ⟨1, _⟩ => exact Nat.zero_add _
  | ⟨2, _⟩ => exact Nat.zero_add _

/-- The position at place `r` is that of the strongest frequency there. -/
theorem places_apply (g : Fin 10000) (j : Fin 2) (r : Fin 16) :
    places w (ix3 g j r) = BitVec.ofNat 32 (topOf w g j r).val :=
  topK_apply _ _ _ g j r (by omega) _ fun _ _ => gt_beq _ _

/-- The comparisons "below zero", "from zero on" and "up to the row's end" on a word that holds a position. -/
theorem word_facts (n : Fin 1024) : IntOp.cmpi .slt (BitVec.ofNat 32 n.val) 0#32 = 0#1
    ∧ IntOp.cmpi .sge (BitVec.ofNat 32 n.val) 0#32 = 1#1 ∧ IntOp.cmpi .sle (BitVec.ofNat 32 n.val) 1023#32 = 1#1 := by
  have hn : n.val < 2 ^ (32 - 1) := by omega
  refine ⟨?_, ?_, ?_⟩
  · refine (WordCmp.cmpi_slt_ofNat (b := 0) hn (by omega)).trans ?_
    rw [decide_eq_false (by omega)]; rfl
  · refine (WordCmp.cmpi_sge_ofNat (b := 0) hn (by omega)).trans ?_
    rw [decide_eq_true (by omega)]; rfl
  · refine (WordCmp.cmpi_sle_ofNat (b := 1023) hn (by omega)).trans ?_
    rw [decide_eq_true (by omega)]; rfl

/-- The start index is that position. -/
theorem wrapped_apply (g : Fin 10000) (j : Fin 2) (r : Fin 16) (z : Fin 1) :
    wrapped w (ix4 g j r z) = BitVec.ofNat 32 (topOf w g j r).val := by
  unfold wrapped
  refine (shapeCast_apply _ _ _ (ix3 g j r) ?_).trans ?_
  · rw [Shape.rowMajor_val_three, Shape.rowMajor_val_four]
    change (g.val * 2 + j.val) * 16 + r.val = ((g.val * 2 + j.val) * 16 + r.val) * 1 + z.val
    omega
  · have h : cmpi .slt (places w) (broadcastInDim S10000x2x16 ![] bcast_S_S10000x2x16 (constantI S_ 32 0#32)) (ix3 g j r) = 0#1 := by
      change IntOp.cmpi .slt (places w (ix3 g j r)) 0#32 = 0#1
      rw [places_apply]
      exact (word_facts _).1
    rw [select_apply, h, places_apply]
    rfl

/-- An "and" of ones is one. -/
theorem all_ones {s t u : Shape} {axes : List (Fin s.rank)} (x : s.Idx → BitVec 1) (init : u.Idx → BitVec 1)
    (h : s.ReducesTo axes t) (hu : 0 < u.numel) (hx : ∀ i, x i = 1#1) (hi : ∀ i, init i = 1#1) (i : t.Idx) :
    Host.reduce IntOp.andi x init h hu i = 1#1 := by
  unfold Host.reduce
  rw [hi]
  induction (List.finRange s.numel).filter fun n => h.drop (s.rowMajor.symm n) = i with
  | nil => rfl
  | cons a l ih =>
    rw [List.foldl_cons, hx]
    exact ih

/-- All start indices lie in the row. -/
theorem inRow_apply (i : S10000x2x16x1.Idx) : inRow w i = 1#1 := by
  obtain ⟨g, j, r, z, rfl⟩ : ∃ (g : Fin 10000) (j : Fin 2) (r : Fin 16) (z : Fin 1), i = ix4 g j r z :=
    ⟨i 0, i 1, i 2, i 3, eq_ix4 i⟩
  change IntOp.andi (IntOp.cmpi .sge (wrapped w (ix4 g j r z)) 0#32) (IntOp.cmpi .sle (wrapped w (ix4 g j r z)) 1023#32) = 1#1
  rw [wrapped_apply, (word_facts _).2.1, (word_facts _).2.2]
  rfl

/-- One entry gathered from each row: the row's entry at the start index, read as a position and held in the row. -/
theorem gather_row_apply {a b n q : ℕ} {α : Type} (hn : 0 < n)
    (wf : GatherDims.WF ⟨3, ![a, b, n]⟩ ⟨4, ![a, b, q, 1]⟩ ⟨3, ![a, b, q]⟩ [] [2] [0, 1] [2] [0, 1] 3 ![1, 1, 1])
    (x : (⟨3, ![a, b, n]⟩ : Shape).Idx → α) (at_ : IVec ⟨4, ![a, b, q, 1]⟩ 32) (g : Fin a) (j : Fin b) (r : Fin q) :
    Host.gather ⟨[], [2], [0, 1], [0, 1], [2], 3, ![1, 1, 1], wf⟩ x at_ (ix3 g j r)
      = x (ix3 g j ⟨min (at_ (ix4 g j r 0)).toInt.toNat (n - 1), by omega⟩) := by
  refine congrArg x (funext fun y => Fin.ext ?_)
  let D : GatherDims ⟨3, ![a, b, n]⟩ ⟨4, ![a, b, q, 1]⟩ ⟨3, ![a, b, q]⟩ := ⟨[], [2], [0, 1], [0, 1], [2], 3, ![1, 1, 1], wf⟩
  have hall : ∀ z : Fin 3, ¬(z ∉ ([2] : List (Fin 3)) ∧ z ∉ ([0, 1] : List (Fin 3))) := by decide
  have hc : ∀ z : Fin 3, z ∉ GatherDims.sKept D := fun z hz => hall z ((GatherDims.mem_sKept D z).mp hz)
  have h0 : (0 : Fin 3) ∈ ([0, 1] : List (Fin 3)) := by decide
  have h1 : (1 : Fin 3) ∈ ([0, 1] : List (Fin 3)) := by decide
  have h2 : (2 : Fin 3) ∈ ([2] : List (Fin 3)) := by decide
  have h2' : (2 : Fin 3) ∉ ([0, 1] : List (Fin 3)) := by decide
  match y with
  | ⟨0, _⟩ =>
    change GatherDims.start D _ at_ (0 : Fin 3) + GatherDims.batchCoord D _ (0 : Fin 3) + GatherDims.offCoord D _ (0 : Fin 3) = _
    rw [GatherDims.start_batching _ _ _ _ h0, GatherDims.offCoord_eq_zero _ _ _ (hc 0), Nat.zero_add, Nat.add_zero]
    unfold GatherDims.batchCoord
    rw [dif_pos h0]
    rfl
  | ⟨1, _⟩ =>
    change GatherDims.start D _ at_ (1 : Fin 3) + GatherDims.batchCoord D _ (1 : Fin 3) + GatherDims.offCoord D _ (1 : Fin 3) = _
    rw [GatherDims.start_batching _ _ _ _ h1, GatherDims.offCoord_eq_zero _ _ _ (hc 1), Nat.zero_add, Nat.add_zero]
    unfold GatherDims.batchCoord
    rw [dif_pos h1]
    rfl
  | ⟨2, _⟩ =>
    change GatherDims.start D _ at_ (2 : Fin 3) + GatherDims.batchCoord D _ (2 : Fin 3) + GatherDims.offCoord D _ (2 : Fin 3) = _
    rw [GatherDims.batchCoord_eq_zero _ _ _ h2', GatherDims.offCoord_eq_zero _ _ _ (hc 2), Nat.add_zero]
    unfold GatherDims.start
    rw [dif_pos h2]
    refine congrArg (fun i => min (at_ i).toInt.toNat (n - 1)) (funext fun z => Fin.ext ?_)
    match z with
    | ⟨0, _⟩ => rfl
    | ⟨1, _⟩ => rfl
    | ⟨2, _⟩ => rfl
    | ⟨3, _⟩ => rfl

/-- The kept coefficients are those of the strongest frequencies. -/
theorem kept_apply (g : Fin 10000) (j : Fin 2) (r : Fin 16) : kept w (ix3 g j r) = w (ix3 g j (topOf w g j r)) := by
  unfold kept
  rw [select_apply, all_ones _ _ _ _ (inRow_apply w) fun i => (rfl : constantI S_ 1 1#1 i = 1#1)]
  refine (gather_row_apply (by omega) _ w (wrapped w) g j r).trans ?_
  refine congrArg (fun k => w (ix3 g j k)) (Fin.ext ?_)
  change min (wrapped w (ix4 g j r 0)).toInt.toNat (1024 - 1) = (topOf w g j r).val
  rw [wrapped_apply, WordCmp.toInt_ofNat_of_lt (by have := (topOf w g j r).isLt; omega), Int.toNat_natCast]
  have := (topOf w g j r).isLt
  omega

/-- The word of the constant 1024. -/
theorem ofBits_1024 : Ideal.ofBits .f32 0x44800000#32 = ((1024 : ℝ) : EReal) := by
  simp [Ideal.ofBits, Ideal.ieee, -EReal.coe_mul]; norm_num

/-- Scaling by 1024 and back changes nothing. -/
theorem unscale (x : ℝ) : Ideal.div (((1024 : ℝ) : EReal) * (x : EReal)) ((1024 : ℝ) : EReal) = (x : EReal) := by
  have h0 : ((1024 : ℝ) : EReal) ≠ 0 := by exact_mod_cast (by norm_num : (1024 : ℝ) ≠ 0)
  unfold Ideal.div
  rw [if_neg h0, ← EReal.coe_inv, ← EReal.coe_mul, ← EReal.coe_mul, mul_comm (1024 : ℝ) x,
    mul_inv_cancel_right₀ (by norm_num : (1024 : ℝ) ≠ 0)]

/-- A position's word, read as a number. -/
theorem number_word (n : Fin 1024) : (((BitVec.ofNat 32 n.val).toInt : ℝ) : EReal) = ((n.val : ℝ) : EReal) := by
  rw [WordCmp.toInt_ofNat_of_lt (by have := n.isLt; omega), Int.cast_natCast]

/-- The frequency at place `r`. -/
theorem freqs_apply (g : Fin 10000) (j : Fin 2) (r : Fin 16) :
    freqs w (ix3 g j r) = (((topOf w g j r).val : ℝ) : EReal) := by
  change Ideal.div (Ideal.ofBits .f32 0x44800000#32 * (((places w (ix3 g j r)).toInt : ℝ) : EReal)) (Ideal.ofBits .f32 0x44800000#32) = _
  rw [places_apply, ofBits_1024, number_word, unscale]

end Cert.Splat.Plain

end
-- ==== Proof.Reference.lean ====
module

public import proofs.«01_k».proof.Proof.Strongest
public import Idealize.ShloMosaic.Lib.StackMember

/-!
# What the reference computes

The reference's result is one long term. It is cut here into the points in the splats' frames, the Gaussian, the two
waves and the last product with the colours; each is read at an index.
-/

@[expose] public section

set_option maxRecDepth 16384

noncomputable section

namespace Cert.Splat.Plain

open Cert.ReferenceIdeal Cert.ReferenceIdeal.Gen
open Idealize.ShloMosaic hiding ix1 ix2 ix3 ix4 eq_ix2 eq_ix4
open Idealize.ShloMosaic.TcCoe Idealize.ShloMosaic.ValueIdx

variable (a0 : FVec Ideal S512x2 .f32) (a1 : FVec Ideal S10000x3 .f32) (a2 a3 : FVec Ideal S10000x2 .f32)
  (a4 : FVec Ideal S10000x1 .f32) (a5 : FVec Ideal S10000x2x1024 .f32)

/-! ## The pieces -/

/-- A row of splats repeated for every point. -/
def perSplat (x : FVec Ideal S10000 .f32) : FVec Ideal S512x10000 .f32 :=
  broadcastInDim S512x10000 ![0, 1] bcast_S1x10000_S512x10000_0_1 (broadcastInDim S1x10000 ![1] bcast_S10000_S1x10000_1 x)

/-- The angles as a row. -/
def angles : FVec Ideal S10000 .f32 := shapeCast _ a4 shapeCasts_S10000x1_S10000

/-- The sines, negated. -/
def negSines : FVec Ideal S512x10000 .f32 :=
  broadcastInDim S512x10000 ![0, 1] bcast_S1x10000_S512x10000_0_1
    (Host.negf (broadcastInDim S1x10000 ![1] bcast_S10000_S1x10000_1 (Host.sin (angles a4))))

/-- The points relative to the centres. -/
def rel : FVec Ideal S512x10000x2 .f32 :=
  subf (broadcastInDim S512x10000x2 ![0, 1, 2] bcast_S512x1x2_S512x10000x2_0_1_2
      (broadcastInDim S512x1x2 ![0, 2] bcast_S512x2_S512x1x2_0_2 a0))
    (broadcastInDim S512x10000x2 ![0, 1, 2] bcast_S1x10000x2_S512x10000x2_0_1_2
      (broadcastInDim S1x10000x2 ![1, 2] bcast_S10000x2_S1x10000x2_1_2 a2))

def relX : FVec Ideal S512x10000 .f32 :=
  shapeCast _ (extractStridedSlice S512x10000x1 ![0, 0, 0] (rel a0 a2) slices_S512x10000x2_S512x10000x1_0_0_0)
    shapeCasts_S512x10000x1_S512x10000

def relY : FVec Ideal S512x10000 .f32 :=
  shapeCast _ (extractStridedSlice S512x10000x1 ![0, 0, 1] (rel a0 a2) slices_S512x10000x2_S512x10000x1_0_0_1)
    shapeCasts_S512x10000x1_S512x10000

/-- The points in the splats' frames. -/
def frameX : FVec Ideal S512x10000 .f32 :=
  addf (mulf (perSplat (Host.cos (angles a4))) (relX a0 a2)) (mulf (perSplat (Host.sin (angles a4))) (relY a0 a2))

def frameY : FVec Ideal S512x10000 .f32 :=
  addf (mulf (negSines a4) (relX a0 a2)) (mulf (perSplat (Host.cos (angles a4))) (relY a0 a2))

/-- The scales. -/
def scaleX : FVec Ideal S512x10000 .f32 :=
  perSplat (shapeCast _ (extractStridedSlice S10000x1 ![0, 0] a3 slices_S10000x2_S10000x1_0_0) shapeCasts_S10000x1_S10000)

def scaleY : FVec Ideal S512x10000 .f32 :=
  perSplat (shapeCast _ (extractStridedSlice S10000x1 ![0, 1] a3 slices_S10000x2_S10000x1_0_1) shapeCasts_S10000x1_S10000)

/-- The Gaussians, from the points in the splats' frames. -/
def bell (tx ty : FVec Ideal S512x10000 .f32) : FVec Ideal S512x10000 .f32 :=
  Host.exp (mulf (broadcastInDim S512x10000 ![] bcast_S_S512x10000 (constant S_ .f32 0xBF000000#32))
    (addf (mulf (mulf tx (scaleX a3)) (mulf tx (scaleX a3))) (mulf (mulf ty (scaleY a3)) (mulf ty (scaleY a3)))))

/-- A wave, from its coefficients and frequencies and the points' coordinate. -/
def wave (x f : FVec Ideal S10000x16 .f32) (t : FVec Ideal S512x10000 .f32) : FVec Ideal S512x10000 .f32 :=
  Host.reduceAdd (mulf
    (broadcastInDim S512x10000x16 ![0, 1, 2] bcast_S1x10000x16_S512x10000x16_0_1_2
      (broadcastInDim S1x10000x16 ![1, 2] bcast_S10000x16_S1x10000x16_1_2 x))
    (Host.cos (mulf
      (broadcastInDim S512x10000x16 ![0, 1, 2] bcast_S1x10000x16_S512x10000x16_0_1_2
        (mulf (broadcastInDim S1x10000x16 ![] bcast_S_S1x10000x16 (constant S_ .f32 0x40C90FDB#32))
          (broadcastInDim S1x10000x16 ![1, 2] bcast_S10000x16_S1x10000x16_1_2 f)))
      (broadcastInDim S512x10000x16 ![0, 1, 2] bcast_S512x10000x1_S512x10000x16_0_1_2
        (broadcastInDim S512x10000x1 ![0, 1] bcast_S512x10000_S512x10000x1_0_1 t)))))
    (constant S_ .f32 0x00000000#32) reducesTo_S512x10000x16_S512x10000_d2 h_S_

/-- One axis of a table of coefficients or frequencies. -/
def axisX (x : FVec Ideal S10000x2x16 .f32) : FVec Ideal S10000x16 .f32 :=
  shapeCast _ (extractStridedSlice S10000x1x16 ![0, 0, 0] x slices_S10000x2x16_S10000x1x16_0_0_0) shapeCasts_S10000x1x16_S10000x16

def axisY (x : FVec Ideal S10000x2x16 .f32) : FVec Ideal S10000x16 .f32 :=
  shapeCast _ (extractStridedSlice S10000x1x16 ![0, 1, 0] x slices_S10000x2x16_S10000x1x16_0_1_0) shapeCasts_S10000x1x16_S10000x16

/-- The weights of the splats at the points. -/
def weights : FVec Ideal S512x10000 .f32 :=
  mulf (mulf (bell a3 (frameX a0 a2 a4) (frameY a0 a2 a4)) (wave (axisX (kept a5)) (axisX (freqs a5)) (frameX a0 a2 a4)))
    (wave (axisY (kept a5)) (axisY (freqs a5)) (frameY a0 a2 a4))

/-- The reference's result is made of these pieces. -/
theorem res_eq (m : (ℓ : Loc nD τ sig) → Buf (Elt Ideal) ℓ) (c : Dev nD) :
    Value.res_main_v89 m c = Host.dotGeneral (φ₁ := .f32) (φ₂ := .f32) dot_S512x10000_S10000x3_S512x3_1_0_0_1_n_n none
      (weights (m ((c.tc : Thread nD τ).loc main_arg0)) (m ((c.tc : Thread nD τ).loc main_arg2)) (m ((c.tc : Thread nD τ).loc main_arg3))
        (m ((c.tc : Thread nD τ).loc main_arg4)) (m ((c.tc : Thread nD τ).loc main_arg5)))
      (m ((c.tc : Thread nD τ).loc main_arg1)) := by
  unfold Value.res_main_v89
  rfl

/-! ## What they hold -/

theorem perSplat_apply (x : FVec Ideal S10000 .f32) (n : Fin 512) (g : Fin 10000) : perSplat x (ix2 n g) = x (ix1 g) := by
  unfold perSplat
  pointwise
  rfl

theorem angles_apply (g : Fin 10000) : angles a4 (ix1 g) = a4 (ix2 g 0) := by
  unfold angles
  pointwise
  rfl

theorem rel_apply (n : Fin 512) (g : Fin 10000) (j : Fin 2) : rel a0 a2 (ix3 n g j) = a0 (ix2 n j) - a2 (ix2 g j) := by
  unfold rel
  pointwise
  rfl

theorem relX_apply (n : Fin 512) (g : Fin 10000) : relX a0 a2 (ix2 n g) = a0 (ix2 n 0) - a2 (ix2 g 0) := by
  refine Eq.trans ?_ (rel_apply a0 a2 n g 0)
  unfold relX
  pointwise
  rfl

theorem relY_apply (n : Fin 512) (g : Fin 10000) : relY a0 a2 (ix2 n g) = a0 (ix2 n 1) - a2 (ix2 g 1) := by
  refine Eq.trans ?_ (rel_apply a0 a2 n g 1)
  unfold relY
  pointwise
  rfl

theorem negSines_apply (n : Fin 512) (g : Fin 10000) : negSines a4 (ix2 n g) = -Ideal.sin (a4 (ix2 g 0)) := by
  rw [← angles_apply a4 g]
  unfold negSines
  pointwise
  rfl

theorem cosines_apply (n : Fin 512) (g : Fin 10000) : perSplat (Host.cos (angles a4)) (ix2 n g) = Ideal.cos (a4 (ix2 g 0)) := by
  rw [perSplat_apply, ← angles_apply a4 g]
  rfl

theorem sines_apply (n : Fin 512) (g : Fin 10000) : perSplat (Host.sin (angles a4)) (ix2 n g) = Ideal.sin (a4 (ix2 g 0)) := by
  rw [perSplat_apply, ← angles_apply a4 g]
  rfl

/-- The first coordinate in the splat's frame. -/
theorem frameX_apply (n : Fin 512) (g : Fin 10000) : frameX a0 a2 a4 (ix2 n g)
    = localX (a0 (ix2 n 0)) (a0 (ix2 n 1)) (a2 (ix2 g 0)) (a2 (ix2 g 1)) (a4 (ix2 g 0)) := by
  unfold frameX localX
  rw [addf_apply, mulf_apply, mulf_apply, cosines_apply, sines_apply, relX_apply, relY_apply]

/-- The second coordinate in the splat's frame. -/
theorem frameY_apply (n : Fin 512) (g : Fin 10000) : frameY a0 a2 a4 (ix2 n g)
    = localY (a0 (ix2 n 0)) (a0 (ix2 n 1)) (a2 (ix2 g 0)) (a2 (ix2 g 1)) (a4 (ix2 g 0)) := by
  unfold frameY localY
  rw [addf_apply, mulf_apply, mulf_apply, cosines_apply, negSines_apply, relX_apply, relY_apply]

theorem scaleX_apply (n : Fin 512) (g : Fin 10000) : scaleX a3 (ix2 n g) = a3 (ix2 g 0) := by
  unfold scaleX
  rw [perSplat_apply]
  pointwise
  rfl

theorem scaleY_apply (n : Fin 512) (g : Fin 10000) : scaleY a3 (ix2 n g) = a3 (ix2 g 1) := by
  unfold scaleY
  rw [perSplat_apply]
  pointwise
  rfl

/-- The Gaussian of a splat at a point. -/
theorem bell_apply (tx ty : FVec Ideal S512x10000 .f32) (n : Fin 512) (g : Fin 10000) :
    bell a3 tx ty (ix2 n g) = gauss (tx (ix2 n g)) (ty (ix2 n g)) (a3 (ix2 g 0)) (a3 (ix2 g 1)) := by
  unfold gauss
  rw [← scaleX_apply a3 n g, ← scaleY_apply a3 n g]
  rfl

theorem axisX_apply (x : FVec Ideal S10000x2x16 .f32) (g : Fin 10000) (r : Fin 16) : axisX x (ix2 g r) = x (ix3 g 0 r) := by
  unfold axisX
  pointwise
  rfl

theorem axisY_apply (x : FVec Ideal S10000x2x16 .f32) (g : Fin 10000) (r : Fin 16) : axisY x (ix2 g r) = x (ix3 g 1 r) := by
  unfold axisY
  pointwise
  rfl

theorem reduces_places : S512x10000x16.Reduces [2] S512x10000 := by decide

theorem lift_place (n : Fin 512) (g : Fin 10000) (r : Fin 16) : reduces_places.lift (ix2 n g) r = ix3 n g r := by
  funext a
  match a with
  | ⟨0, _⟩ => rfl
  | ⟨1, _⟩ => rfl
  | ⟨2, _⟩ => rfl

/-- A wave at a point adds up its sixteen cosines. -/
theorem wave_apply (x f : FVec Ideal S10000x16 .f32) (t : FVec Ideal S512x10000 .f32) (n : Fin 512) (g : Fin 10000) :
    wave x f t (ix2 n g) = ∑ r : Fin 16, x (ix2 g r) * Ideal.cos (turn * f (ix2 g r) * t (ix2 n g)) := by
  unfold wave
  refine (Ideal.hostReduceAdd_single reducesTo_S512x10000x16_S512x10000_d2 reduces_places _ _ (ix2 n g)).trans ?_
  refine (congrArg (· + _) Ideal.ofBits_zero_f32).trans ((zero_add _).trans ?_)
  refine Finset.sum_congr rfl fun (r : Fin 16) _ => ?_
  refine (congrArg _ (lift_place n g r)).trans ?_
  pointwise
  rfl

/-- A wave of the strongest frequencies is the wave of the specification. -/
theorem waveX_apply (t : FVec Ideal S512x10000 .f32) (n : Fin 512) (g : Fin 10000) :
    wave (axisX (kept a5)) (axisX (freqs a5)) t (ix2 n g) = waveAt (t (ix2 n g)) fun l => a5 (ix3 g 0 l) := by
  rw [wave_apply]
  unfold waveAt
  refine Finset.sum_congr rfl fun r _ => ?_
  rw [axisX_apply, axisX_apply, kept_apply, freqs_apply]

theorem waveY_apply (t : FVec Ideal S512x10000 .f32) (n : Fin 512) (g : Fin 10000) :
    wave (axisY (kept a5)) (axisY (freqs a5)) t (ix2 n g) = waveAt (t (ix2 n g)) fun l => a5 (ix3 g 1 l) := by
  rw [wave_apply]
  unfold waveAt
  refine Finset.sum_congr rfl fun r _ => ?_
  rw [axisY_apply, axisY_apply, kept_apply, freqs_apply]

/-- The weight of a splat at a point. -/
theorem weights_apply (n : Fin 512) (g : Fin 10000) : weights a0 a2 a3 a4 a5 (ix2 n g)
    = weight (a0 (ix2 n 0)) (a0 (ix2 n 1)) (a2 (ix2 g 0)) (a2 (ix2 g 1)) (a4 (ix2 g 0)) (a3 (ix2 g 0)) (a3 (ix2 g 1))
      (fun l => a5 (ix3 g 0 l)) (fun l => a5 (ix3 g 1 l)) := by
  unfold weights weight
  rw [mulf_apply, mulf_apply, bell_apply, waveX_apply, waveY_apply, frameX_apply, frameY_apply]

/-- **The reference's result is the sum of the splats' shares.** -/
theorem product_apply (n : Fin 512) (k : Fin 3) :
    Host.dotGeneral (φ₁ := .f32) (φ₂ := .f32) dot_S512x10000_S10000x3_S512x3_1_0_0_1_n_n none (weights a0 a2 a3 a4 a5) a1 (ix2 n k)
      = ∑ g : Fin 10000, share (fun n j => a0 (ix2 n j)) (fun g k => a1 (ix2 g k)) (fun g j => a2 (ix2 g j)) (fun g j => a3 (ix2 g j))
        (fun g => a4 (ix2 g 0)) (fun g j l => a5 (ix3 g j l)) n k g := by
  refine (StackMember.dotGeneral_plain_apply none (weights a0 a2 a3 a4 a5) a1 n k).trans ?_
  refine Finset.sum_congr rfl fun g _ => ?_
  rw [weights_apply]
  rfl

end Cert.Splat.Plain

end
-- ==== Proof.Equation.lean ====
module

public import proofs.«01_k».proof.Proof.Array
public import proofs.«01_k».proof.Proof.Reference

/-!
# The equation between the two programs

From memories that agree on the six arguments, the reference's result is the kernel's image: both are the sum of the
same shares, and the order of a sum does not matter.
-/

@[expose] public section

set_option maxRecDepth 16384

noncomputable section

namespace Cert.Splat

open Idealize.ShloMosaic hiding ix1 ix2 ix3 ix4 eq_ix2 eq_ix4
open Idealize.SL.Sem
open Idealize.ShloMosaic.TcCoe Idealize.ShloMosaic.ValueIdx

/-- **The reference computes the kernel's image.** -/
theorem reference_image
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5)
      = m ((c.tc : Thread Cert.KernelIdeal.nD Cert.KernelIdeal.τ).loc Cert.KernelIdeal.main_arg5)) :
    Cert.ReferenceIdeal.Value.res_main_v89 m' c = image m c := by
  rw [Plain.res_eq, h0, h1, h2, h3, h4, h5]
  funext i
  refine (congrArg _ (eq_ix2 i)).trans ?_
  exact Plain.product_apply _ _ _ _ _ _ (i 0) (i 1)

end Cert.Splat

end
-- ==== Proof.lean ====
/- The kernel and the plain reference compute the same image over the extended reals. The kernel's side is
   `Proof/Array.lean`, the reference's `Proof/Reference.lean`, the equation between them `Proof/Equation.lean`; here the
   five claims are put together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem

/-- The reference leaves its arguments and, having no semaphores, every counter at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two programs end with the same image. -/
theorem algebraic : Cert.algebraic_KernelIdeal_ReferenceIdeal := by
  intro m g m' g' _ hagree
  refine ⟨Cert.Splat.image m, Cert.Splat.kernel_run m g, ?_⟩
  refine (θ_run Cert.ReferenceIdeal.defs _ _).mono (fun r h c => ⟨(h c).1.trans ?_, (h c).2⟩)
    (Cert.ReferenceIdeal.Value.run (F := Ideal) m' g')
  obtain ⟨h0, h1, h2, h3, h4, h5⟩ := hagree c
  exact Cert.Splat.reference_image m m' c h0 h1 h2 h3 h4 h5

/-- **The claim.** -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
